-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x8192x768 : Shape := ⟨3, ![4, 8192, 768]⟩
abbrev S4x8192 : Shape := ⟨2, ![4, 8192]⟩
abbrev S768x768 : Shape := ⟨2, ![768, 768]⟩
abbrev S768 : Shape := ⟨1, ![768]⟩
abbrev S_ : Shape := ⟨0, ![]⟩

class Facts : Prop where
  bcast_S_S4x8192x768 : S_.BroadcastsInDim S4x8192x768 (![] : Fin 0 → Fin S4x8192x768.rank)
  reducesTo_S4x8192x768_S_d0_1_2 : S4x8192x768.ReducesTo [0, 1, 2] S_
  h_S_ : 0 < S_.numel

variable [Facts]

def fn {F : FTy → Type} [FloatOps F] (main_arg0 : FVec F S4x8192x768 .f32) (main_arg1 : IVec S4x8192 32) (main_arg2 : FVec F S768x768 .f32) (main_arg3 : FVec F S768 .f32) (main_arg4 : FVec F S768 .f32) (main_arg5 : FVec F S768 .f32) : IVec S_ 1 :=
  let main_v0 : FVec F S4x8192x768 .f32 := Host.absf main_arg0
  let main_cst : FVec F S_ .f32 := constant S_ .f32 0x7F800000#32
  let main_v1 : FVec F S4x8192x768 .f32 := broadcastInDim S4x8192x768 ![] bcast_S_S4x8192x768 main_cst
  let main_v2 : IVec S4x8192x768 1 := cmpf .olt main_v0 main_v1
  let main_c : IVec S_ 1 := constantI S_ 1 1#1
  let main_v3 : IVec S_ 1 := (fun x v => Host.reduce IntOp.andi x v reducesTo_S4x8192x768_S_d0_1_2 h_S_) main_v2 main_c
  main_v3
-- ==== Kernel.lean ====
abbrev S4x8192x768 : Shape := ⟨3, ![4, 8192, 768]⟩
abbrev S4x8192 : Shape := ⟨2, ![4, 8192]⟩
abbrev S768x768 : Shape := ⟨2, ![768, 768]⟩
abbrev S768 : Shape := ⟨1, ![768]⟩
abbrev S32768x768 : Shape := ⟨2, ![32768, 768]⟩
abbrev S32768 : Shape := ⟨1, ![32768]⟩
abbrev S1x768 : Shape := ⟨2, ![1, 768]⟩
abbrev S32x1x128 : Shape := ⟨3, ![32, 1, 128]⟩
abbrev S32x16 : Shape := ⟨2, ![32, 16]⟩
abbrev S1024 : Shape := ⟨1, ![1024]⟩
abbrev S128 : Shape := ⟨1, ![128]⟩
abbrev S16 : Shape := ⟨1, ![16]⟩
abbrev S_ : Shape := ⟨0, ![]⟩
abbrev S1x1x128 : Shape := ⟨3, ![1, 1, 128]⟩
abbrev S1x16 : Shape := ⟨2, ![1, 16]⟩
abbrev S32x1 : Shape := ⟨2, ![32, 1]⟩
abbrev S32 : Shape := ⟨1, ![32]⟩
abbrev S1024x768 : Shape := ⟨2, ![1024, 768]⟩
abbrev S1024x128 : Shape := ⟨2, ![1024, 128]⟩
abbrev S128x1024 : Shape := ⟨2, ![128, 1024]⟩
abbrev S1x1 : Shape := ⟨2, ![1, 1]⟩
abbrev S1x128 : Shape := ⟨2, ![1, 128]⟩
abbrev S128x1 : Shape := ⟨2, ![128, 1]⟩
abbrev S128x768 : Shape := ⟨2, ![128, 768]⟩
abbrev S32768x1 : Shape := ⟨2, ![32768, 1]⟩
abbrev S1024x1 : Shape := ⟨2, ![1024, 1]⟩

abbrev nBuf : Table → Nat
  | .hbm => 28
  | .local .tc .vmem => 20
  | .local .tc .smem => 1
  | .local .scVector .vmem => 3
  | _ => 0

abbrev bufTy : (tb : Table) → Fin (nBuf tb) → BufTy
  | .hbm, ⟨0, _⟩ => ⟨S4x8192x768, .f32⟩
  | .hbm, ⟨1, _⟩ => ⟨S4x8192, .i32⟩
  | .hbm, ⟨2, _⟩ => ⟨S768x768, .f32⟩
  | .hbm, ⟨3, _⟩ => ⟨S768, .f32⟩
  | .hbm, ⟨4, _⟩ => ⟨S768, .f32⟩
  | .hbm, ⟨5, _⟩ => ⟨S768, .f32⟩
  | .hbm, ⟨6, _⟩ => ⟨S32768x768, .f32⟩
  | .hbm, ⟨7, _⟩ => ⟨S32768, .i32⟩
  | .hbm, ⟨8, _⟩ => ⟨S768x768, .f32⟩
  | .hbm, ⟨9, _⟩ => ⟨S768x768, .bf16⟩
  | .hbm, ⟨10, _⟩ => ⟨S1x768, .f32⟩
  | .hbm, ⟨11, _⟩ => ⟨S1x768, .f32⟩
  | .hbm, ⟨12, _⟩ => ⟨S1x768, .f32⟩
  | .hbm, ⟨13, _⟩ => ⟨S32x1x128, .i32⟩
  | .hbm, ⟨14, _⟩ => ⟨S32x16, .i32⟩
  | .hbm, ⟨15, _⟩ => ⟨S32x1, .i32⟩
  | .hbm, ⟨16, _⟩ => ⟨S32, .i32⟩
  | .hbm, ⟨17, _⟩ => ⟨S_, .i32⟩
  | .hbm, ⟨18, _⟩ => ⟨S32, .i32⟩
  | .hbm, ⟨19, _⟩ => ⟨S32, .i1⟩
  | .hbm, ⟨20, _⟩ => ⟨S_, .i1⟩
  | .hbm, ⟨21, _⟩ => ⟨S_, .i1⟩
  | .hbm, ⟨22, _⟩ => ⟨S_, .i32⟩
  | .hbm, ⟨23, _⟩ => ⟨S32768x768, .f32⟩
  | .hbm, ⟨24, _⟩ => ⟨S32768x768, .f32⟩
  | .hbm, ⟨25, _⟩ => ⟨S32768x1, .i32⟩
  | .hbm, ⟨26, _⟩ => ⟨S32768x768, .f32⟩
  | .hbm, ⟨27, _⟩ => ⟨S4x8192x768, .f32⟩
  | .local .tc .vmem, ⟨0, _⟩ => ⟨S1024x768, .f32⟩
  | .local .tc .vmem, ⟨1, _⟩ => ⟨S1024x768, .f32⟩
  | .local .tc .vmem, ⟨2, _⟩ => ⟨S1x1x128, .i32⟩
  | .local .tc .vmem, ⟨3, _⟩ => ⟨S1x1x128, .i32⟩
  | .local .tc .vmem, ⟨4, _⟩ => ⟨S768x768, .bf16⟩
  | .local .tc .vmem, ⟨5, _⟩ => ⟨S1x768, .f32⟩
  | .local .tc .vmem, ⟨6, _⟩ => ⟨S1x768, .f32⟩
  | .local .tc .vmem, ⟨7, _⟩ => ⟨S1x768, .f32⟩
  | .local .tc .vmem, ⟨8, _⟩ => ⟨S1024x768, .f32⟩
  | .local .tc .vmem, ⟨9, _⟩ => ⟨S1024x768, .f32⟩
  | .local .tc .vmem, ⟨10, _⟩ => ⟨S1024x768, .f32⟩
  | .local .tc .vmem, ⟨11, _⟩ => ⟨S1024x768, .f32⟩
  | .local .tc .vmem, ⟨12, _⟩ => ⟨S1024x1, .i32⟩
  | .local .tc .vmem, ⟨13, _⟩ => ⟨S1024x1, .i32⟩
  | .local .tc .vmem, ⟨14, _⟩ => ⟨S768x768, .bf16⟩
  | .local .tc .vmem, ⟨15, _⟩ => ⟨S1x768, .f32⟩
  | .local .tc .vmem, ⟨16, _⟩ => ⟨S1x768, .f32⟩
  | .local .tc .vmem, ⟨17, _⟩ => ⟨S1x768, .f32⟩
  | .local .tc .vmem, ⟨18, _⟩ => ⟨S1024x768, .f32⟩
  | .local .tc .vmem, ⟨19, _⟩ => ⟨S1024x768, .f32⟩
  | .local .tc .smem, ⟨0, _⟩ => ⟨S32x16, .i32⟩
  | .local .scVector .vmem, ⟨0, _⟩ => ⟨S1024, .i32⟩
  | .local .scVector .vmem, ⟨1, _⟩ => ⟨S128, .i32⟩
  | .local .scVector .vmem, ⟨2, _⟩ => ⟨S16, .i32⟩
  | _, _ => ⟨S4x8192x768, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 24 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTables nBuf rfl bufTy 4 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_c_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_case0b0_v16 : Ref sig .tc := ⟨.hbm, 24, rfl⟩
abbrev main_case0b1_v16 : Ref sig .tc := ⟨.hbm, 25, rfl⟩
abbrev main_case0b1_v17 : Ref sig .tc := ⟨.hbm, 26, rfl⟩
abbrev main_v15 : Ref sig .tc := ⟨.hbm, 27, rfl⟩
abbrev main_v1_scv : Ref sig .scVector := ⟨.hbm, 7, rfl⟩
abbrev main_v7_0_scv : Ref sig .scVector := ⟨.hbm, 13, rfl⟩
abbrev main_v7_1_scv : Ref sig .scVector := ⟨.hbm, 14, rfl⟩
abbrev cc1_stg1_0 : Ref sig .tc := ⟨.vmem, 0, rfl⟩
abbrev cc1_stg1_1 : Ref sig .tc := ⟨.vmem, 1, rfl⟩
abbrev cc1_stg2_0 : Ref sig .tc := ⟨.vmem, 2, rfl⟩
abbrev cc1_stg2_1 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg6_0 : Ref sig .tc := ⟨.vmem, 7, rfl⟩
abbrev cc1_stg7_0 : Ref sig .tc := ⟨.vmem, 8, rfl⟩
abbrev cc1_stg7_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg6_1 : Ref sig .tc := ⟨.vmem, 19, rfl⟩
abbrev cc1_stg0_0 : Ref sig .tc := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem7_0 : DmaSem sig := 12
abbrev cc1_sem7_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem6_1 : DmaSem sig := 23
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  ![v2.toNat]
@[reducible] def k0_t1_loop : Scf.Loop 32 :=
  let c0_i32_1 : BitVec 32 := 0#32
  let c64_i32 : BitVec 32 := 64#32
  let v14 : BitVec 32 := Scalar.addi c0_i32_1 c64_i32
  let c1_i32 : BitVec 32 := 1#32
  ⟨c0_i32_1, v14, c1_i32⟩
def k0_off2 (k0_t1 : Fin k0_t1_loop.trips) : Fin 1 → Nat :=
  let c0_i32_1 : BitVec 32 := 0#32
  let c1_i32 : BitVec 32 := 1#32
  let arg8 : BitVec 32 := Scf.iv c0_i32_1 c1_i32 k0_t1
  let c16_i32 : BitVec 32 := 16#32
  let v17 : BitVec 32 := Scalar.muli arg8 c16_i32
  let v18 : Index := Scalar.indexCast v17
  ![v18.toNat]

def k0_chk1 (v36 : IVec S16 32) : Prop :=
  (∀ a x, ((![v36] : Fin 1 → IVec S16 32) a x).toNat < S128.size a)
theorem k0_idx1_inb : ∀ (v36 : IVec S16 32) (k0_hw1 : k0_chk1 v36), ∀ a x, ((![v36] : Fin 1 → IVec S16 32) a x).toNat < S128.size a := fun v36 k0_hw1 => k0_hw1
def k0_off3 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3 : BitVec 32 := 0#32
  let c0_i32_5_r1 : BitVec 32 := 0#32
  ![v1.toNat, 0, 0]
def k0_off4 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5_r2 : BitVec 32 := 0#32
  ![v1.toNat, 0]
abbrev grid1 : Pipeline.Grid := ⟨1, ![32], ![false]⟩

def k1_off1 (i : grid1.Coords) : Fin 2 → Nat :=
  let c1_i32 : BitVec 32 := 1#32
  let arg0 : BitVec 32 := BitVec.ofNat 32 (i 0).val
  let v4 : BitVec 32 := Scalar.muli c1_i32 arg0
  let c0_i32 : BitVec 32 := 0#32
  let v5 : BitVec 32 := Scalar.addi v4 c0_i32
  let v6 : Index := Scalar.indexCast v5
  let c0 : Index := 0#32
  ![v6.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .smem S32x16 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1024x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x128 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S768x768 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x768 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x768 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x768 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1024x768 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x768 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S768x768 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x768 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x768 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x768 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1024x768 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x8192x768 : Shape := ⟨3, ![4, 8192, 768]⟩
abbrev S4x8192 : Shape := ⟨2, ![4, 8192]⟩
abbrev S768x768 : Shape := ⟨2, ![768, 768]⟩
abbrev S768 : Shape := ⟨1, ![768]⟩
abbrev S1x1x768 : Shape := ⟨3, ![1, 1, 768]⟩
abbrev S_ : Shape := ⟨0, ![]⟩
abbrev S4x8192x1 : Shape := ⟨3, ![4, 8192, 1]⟩

abbrev nBuf : Space → Nat
  | .hbm => 46
  | .vmem => 0
  | .smem => 0
  | _ => 0

abbrev bufTy : (tb : Table) → Fin (tcTables nBuf tb) → BufTy
  | .hbm, ⟨0, _⟩ => ⟨S4x8192x768, .f32⟩
  | .hbm, ⟨1, _⟩ => ⟨S4x8192, .i32⟩
  | .hbm, ⟨2, _⟩ => ⟨S768x768, .f32⟩
  | .hbm, ⟨3, _⟩ => ⟨S768, .f32⟩
  | .hbm, ⟨4, _⟩ => ⟨S768, .f32⟩
  | .hbm, ⟨5, _⟩ => ⟨S768, .f32⟩
  | .hbm, ⟨6, _⟩ => ⟨S4x8192x768, .f32⟩
  | .hbm, ⟨7, _⟩ => ⟨S1x1x768, .f32⟩
  | .hbm, ⟨8, _⟩ => ⟨S4x8192x768, .f32⟩
  | .hbm, ⟨9, _⟩ => ⟨S4x8192x768, .f32⟩
  | .hbm, ⟨10, _⟩ => ⟨S4x8192x768, .f32⟩
  | .hbm, ⟨11, _⟩ => ⟨S_, .f32⟩
  | .hbm, ⟨12, _⟩ => ⟨S4x8192, .f32⟩
  | .hbm, ⟨13, _⟩ => ⟨S4x8192x1, .f32⟩
  | .hbm, ⟨14, _⟩ => ⟨S_, .f32⟩
  | .hbm, ⟨15, _⟩ => ⟨S4x8192x1, .f32⟩
  | .hbm, ⟨16, _⟩ => ⟨S4x8192x1, .f32⟩
  | .hbm, ⟨17, _⟩ => ⟨S4x8192x768, .f32⟩
  | .hbm, ⟨18, _⟩ => ⟨S4x8192x768, .f32⟩
  | .hbm, ⟨19, _⟩ => ⟨S4x8192x768, .f32⟩
  | .hbm, ⟨20, _⟩ => ⟨S_, .f32⟩
  | .hbm, ⟨21, _⟩ => ⟨S4x8192, .f32⟩
  | .hbm, ⟨22, _⟩ => ⟨S4x8192x1, .f32⟩
  | .hbm, ⟨23, _⟩ => ⟨S_, .f32⟩
  | .hbm, ⟨24, _⟩ => ⟨S4x8192x1, .f32⟩
  | .hbm, ⟨25, _⟩ => ⟨S4x8192x1, .f32⟩
  | .hbm, ⟨26, _⟩ => ⟨S4x8192x768, .f32⟩
  | .hbm, ⟨27, _⟩ => ⟨S4x8192x768, .f32⟩
  | .hbm, ⟨28, _⟩ => ⟨S_, .f32⟩
  | .hbm, ⟨29, _⟩ => ⟨S4x8192x1, .f32⟩
  | .hbm, ⟨30, _⟩ => ⟨S4x8192x1, .f32⟩
  | .hbm, ⟨31, _⟩ => ⟨S4x8192x1, .f32⟩
  | .hbm, ⟨32, _⟩ => ⟨S4x8192x768, .f32⟩
  | .hbm, ⟨33, _⟩ => ⟨S4x8192x768, .f32⟩
  | .hbm, ⟨34, _⟩ => ⟨S1x1x768, .f32⟩
  | .hbm, ⟨35, _⟩ => ⟨S4x8192x768, .f32⟩
  | .hbm, ⟨36, _⟩ => ⟨S4x8192x768, .f32⟩
  | .hbm, ⟨37, _⟩ => ⟨S1x1x768, .f32⟩
  | .hbm, ⟨38, _⟩ => ⟨S4x8192x768, .f32⟩
  | .hbm, ⟨39, _⟩ => ⟨S4x8192x768, .f32⟩
  | .hbm, ⟨40, _⟩ => ⟨S_, .i32⟩
  | .hbm, ⟨41, _⟩ => ⟨S4x8192, .i32⟩
  | .hbm, ⟨42, _⟩ => ⟨S4x8192, .i1⟩
  | .hbm, ⟨43, _⟩ => ⟨S4x8192x1, .i1⟩
  | .hbm, ⟨44, _⟩ => ⟨S4x8192x768, .i1⟩
  | .hbm, ⟨45, _⟩ => ⟨S4x8192x768, .f32⟩
  | _, _ => ⟨S4x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_call0_v0 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== Proof.Compact.lean ====
/-
  The compaction that one vector subcore performs on its segment of 1024 mask words, as mathematics: which words are
  selected, how many lie before a position, the list of the first 128 selected positions, and one trip of the loop
  (sixteen lanes) taking the list and the count of the first `16 k` words to those of the first `16 (k + 1)`.
-/
module

public import proofs.«01_k».proof.Defs
public import proofs.«01_k».proof.Proof.Gen.KernelIdeal
public import proofs.«01_k».proof.Proof.Gen.KernelIdeal.Skeleton
public import Mathlib.Data.Nat.Count

@[expose] public section

noncomputable section

namespace Cert.Proof.Compact

open Cert.KernelIdeal Cert.KernelIdeal.Gen
open Idealize.ShloMosaic

/-! ## Selected words, their count, the list of their positions -/

/-- Position `j` of the segment. -/
abbrev word (j : Fin 1024) : S1024.Idx := Shape.ofLane (d := ![1024]) j

/-- Word `j` of the segment is selected: it lies in the segment and it is one. -/
def Sel (s : S1024.Idx → BitVec 32) (j : ℕ) : Prop := ∃ h : j < 1024, s (word ⟨j, h⟩) = 1#32

instance (s : S1024.Idx → BitVec 32) : DecidablePred (Sel s) := fun _ => Classical.propDecidable _

/-- How many of the first `n` words are selected. -/
def cnt (s : S1024.Idx → BitVec 32) (n : ℕ) : ℕ := Nat.count (Sel s) n

/-- The position of the selected word that has exactly `p` selected words before it; zero when there is none. -/
def nth (s : S1024.Idx → BitVec 32) (p : ℕ) : ℕ := open Classical in if h : ∃ j, Sel s j ∧ cnt s j = p then h.choose else 0

/-- The list after the first `n` words: entry `p` is the position of the `p`-th selected word among them, zero when
    there are not so many. -/
def list (s : S1024.Idx → BitVec 32) (n : ℕ) : S128.Idx → BitVec 32 := fun p =>
  if (p 0).val < cnt s n then BitVec.ofNat 32 (nth s (p 0).val) else 0#32

/-- The count after the first `n` words, in every lane. -/
def count (s : S1024.Idx → BitVec 32) (n : ℕ) : S16.Idx → BitVec 32 := fun _ => BitVec.ofNat 32 (cnt s n)

/-- One more word counts one more when it is selected. -/
theorem cnt_succ (s : S1024.Idx → BitVec 32) (n : ℕ) : cnt s (n + 1) = cnt s n + if Sel s n then 1 else 0 := Nat.count_succ _ _

/-- No more words are selected than there are. -/
theorem cnt_le (s : S1024.Idx → BitVec 32) (n : ℕ) : cnt s n ≤ n := Nat.count_le _

/-- The count grows with the bound. -/
theorem cnt_mono (s : S1024.Idx → BitVec 32) {a b : ℕ} (h : a ≤ b) : cnt s a ≤ cnt s b := Nat.count_monotone _ h

/-- A selected word's count below a later bound is strict. -/
theorem cnt_lt (s : S1024.Idx → BitVec 32) {j n : ℕ} (h : Sel s j) (hj : j < n) : cnt s j < cnt s n := by
  have h1 := cnt_succ s j
  rw [if_pos h] at h1
  have := cnt_mono s (show j + 1 ≤ n from hj)
  omega

/-- Selected words with one count are one word. -/
theorem cnt_inj (s : S1024.Idx → BitVec 32) {i j : ℕ} (hi : Sel s i) (hj : Sel s j) (h : cnt s i = cnt s j) : i = j := by
  rcases lt_trichotomy i j with hij | hij | hij
  · have := cnt_lt s hi hij; omega
  · exact hij
  · have := cnt_lt s hj hij; omega

/-- The position of the selected word with `cnt s j` selected words before it is `j`, for a selected `j`. -/
theorem nth_cnt (s : S1024.Idx → BitVec 32) {j : ℕ} (h : Sel s j) : nth s (cnt s j) = j := by
  have hex : ∃ i, Sel s i ∧ cnt s i = cnt s j := ⟨j, h, rfl⟩
  unfold nth
  rw [dif_pos hex]
  exact cnt_inj s hex.choose_spec.1 h hex.choose_spec.2

/-- Before the first word the list is all zeros, -/
theorem list_zero (s : S1024.Idx → BitVec 32) : list s 0 = fun _ => 0#32 := by
  funext p; simp [list, cnt]

/-- and so is the count. -/
theorem count_zero (s : S1024.Idx → BitVec 32) : count s 0 = fun _ => 0#32 := by
  funext p; simp [count, cnt]

/-- A position below the count names a selected word below the bound. -/
theorem exists_of_lt_cnt (s : S1024.Idx → BitVec 32) {n p : ℕ} (h : p < cnt s n) :
    ∃ j, j < n ∧ Sel s j ∧ cnt s j = p ∧ nth s p = j := by
  induction n with
  | zero => simp [cnt] at h
  | succ n ih =>
    rw [cnt_succ] at h
    by_cases hp : p < cnt s n
    · obtain ⟨j, hj, h1, h2, h3⟩ := ih hp
      exact ⟨j, by omega, h1, h2, h3⟩
    · split_ifs at h with hs
      · have : cnt s n = p := by omega
        exact ⟨n, by omega, hs, this, this ▸ nth_cnt s hs⟩
      · omega

/-! ## The running sum of sixteen lanes -/

/-- Lane `k` of sixteen. -/
abbrev lane (k : Fin 16) : S16.Idx := Shape.ofLane (d := ![16]) k

/-- A vector's index is a lane. -/
theorem idx_eq_lane (i : S16.Idx) : i = lane (i 0) := by
  funext a; rw [Subsingleton.elim a 0]; rfl

/-- The running sum's first lane is the first lane, -/
theorem scan_zero (v : IVec S16 32) : scan .sum v (lane 0) = v (lane 0) := by
  show (((List.finRange 16).filter fun k : Fin 16 => decide (0 < k.val ∧ k.val ≤ 0)).foldl
      (fun r k => ScanKind.sum.step r (v (lane k))) (v (lane 0))) = _
  rw [show ((List.finRange 16).filter fun k : Fin 16 => decide (0 < k.val ∧ k.val ≤ 0)) = [] from by decide]
  rfl

/-- the lanes up to one more are one lane more, -/
theorem lanes_step : ∀ n : Fin 15,
    ((List.finRange 16).filter fun k : Fin 16 => decide (0 < k.val ∧ k.val ≤ n.val + 1))
      = ((List.finRange 16).filter fun k : Fin 16 => decide (0 < k.val ∧ k.val ≤ n.val)) ++ [n.succ] := by decide

/-- so each later lane of the running sum adds its own. -/
theorem scan_succ (v : IVec S16 32) (n : Fin 15) :
    scan .sum v (lane n.succ) = scan .sum v (lane n.castSucc) + v (lane n.succ) := by
  show (((List.finRange 16).filter fun k : Fin 16 => decide (0 < k.val ∧ k.val ≤ n.val + 1)).foldl
      (fun r k => ScanKind.sum.step r (v (lane k))) (v (lane 0))) = _
  rw [lanes_step n, List.foldl_append]
  rfl

variable {F : FTy → Type} [FloatOps F]

/-- The last lane, extracted. -/
theorem extract_last (v : IVec S16 32) : extractAt ![15] v inpos_S16_p15 = v (lane ⟨15, by decide⟩) :=
  congrArg v (by funext a; rw [Subsingleton.elim a 0]; rfl)

theorem addi_broadcast (a : IVec S16 32) (x : BitVec 32) (i : S16.Idx) : addi a (broadcast S16 x) i = a i + x := rfl

theorem pay9_apply (a : IVec S16 32) (v : S16.Idx → BitVec 32) (i : S16.Idx) :
    k0_pay9 (F := F) a v i = a i + extractAt ![15] (scan .sum (k0_pay4 (F := F) v)) inpos_S16_p15 := by
  exact addi_broadcast a _ i

/-- What the trip reads: the sixteen words from `16 k` on. -/
def Reads (s : S1024.Idx → BitVec 32) (k : ℕ) (v : S16.Idx → BitVec 32) : Prop :=
  ∀ (i : Fin 16) (h : 16 * k + i.val < 1024), v (lane i) = s (word ⟨16 * k + i.val, h⟩)

section Trip

variable (s : S1024.Idx → BitVec 32) (k : ℕ) (hk : k < 64) (v : S16.Idx → BitVec 32) (hv : Reads s k v)

include hk hv in
/-- A lane of the words read is one exactly when its word is selected. -/
theorem sel_lane (i : Fin 16) : Sel s (16 * k + i.val) ↔ v (lane i) = 1#32 := by
  have h : 16 * k + i.val < 1024 := by omega
  rw [hv i h]
  exact ⟨fun ⟨_, e⟩ => e, fun e => ⟨h, e⟩⟩

include hk hv in
theorem pay3_lane (i : Fin 16) : k0_pay3 (F := F) v (lane i) = if Sel s (16 * k + i.val) then 1#1 else 0#1 := by
  show BitVec.ofBool (v (lane i) == 1#32) = _
  by_cases h : v (lane i) = 1#32
  · rw [if_pos ((sel_lane s k hk v hv i).2 h), h]; rfl
  · rw [if_neg (fun h' => h ((sel_lane s k hk v hv i).1 h')), beq_eq_false_iff_ne.mpr h]; rfl

include hk hv in
theorem pay4_lane (i : Fin 16) : k0_pay4 (F := F) v (lane i) = if Sel s (16 * k + i.val) then 1#32 else 0#32 := by
  show (if k0_pay3 (F := F) v (lane i) = 1 then 1#32 else 0#32) = _
  rw [pay3_lane (F := F) s k hk v hv]
  by_cases h : Sel s (16 * k + i.val)
  · rw [if_pos h, if_pos h]; rfl
  · rw [if_neg h, if_neg h, if_neg (by decide)]

include hk hv in
/-- The running sum of the selected lanes, from the count before the trip. -/
theorem scan_lane : ∀ (n : ℕ) (h : n < 16),
    (scan .sum (k0_pay4 (F := F) v) (lane ⟨n, h⟩)) = BitVec.ofNat 32 (cnt s (16 * k + n + 1) - cnt s (16 * k)) := by
  intro n
  induction n with
  | zero =>
    intro h
    rw [show (⟨0, h⟩ : Fin 16) = 0 from rfl, scan_zero, pay4_lane (F := F) s k hk v hv, cnt_succ]
    show (if Sel s (16 * k + 0) then 1#32 else 0#32) = _
    rw [show 16 * k + 0 = 16 * k from rfl]
    split_ifs <;> simp
  | succ n ih =>
    intro h
    have e : scan .sum (k0_pay4 (F := F) v) (lane ⟨n + 1, h⟩)
        = scan .sum (k0_pay4 (F := F) v) (lane ⟨n, by omega⟩) + k0_pay4 (F := F) v (lane ⟨n + 1, h⟩) :=
      scan_succ (k0_pay4 (F := F) v) ⟨n, by omega⟩
    rw [ih (by omega), pay4_lane (F := F) s k hk v hv] at e
    have h1 := cnt_mono s (show 16 * k ≤ 16 * k + n + 1 by omega)
    refine e.trans ?_
    show BitVec.ofNat 32 (cnt s (16 * k + n + 1) - cnt s (16 * k)) + (if Sel s (16 * k + n + 1) then 1#32 else 0#32)
      = BitVec.ofNat 32 (cnt s (16 * k + n + 1 + 1) - cnt s (16 * k))
    rw [cnt_succ s (16 * k + n + 1)]
    split_ifs
    · rw [show cnt s (16 * k + n + 1) + 1 - cnt s (16 * k) = (cnt s (16 * k + n + 1) - cnt s (16 * k)) + 1 by omega, BitVec.ofNat_add]
    · simp

include hk hv in
/-- Each lane's slot: the count through the lane, less one. -/
theorem pay5_lane (i : Fin 16) :
    k0_pay5 (F := F) (count s (16 * k)) v (lane i) = BitVec.ofNat 32 (cnt s (16 * k + i.val + 1)) - 1#32 := by
  show count s (16 * k) (lane i) + scan .sum (k0_pay4 (F := F) v) (lane i) - 1#32 = _
  rw [scan_lane (F := F) s k hk v hv i.val i.isLt]
  have h1 := cnt_mono s (show 16 * k ≤ 16 * k + i.val + 1 by omega)
  unfold count
  rw [← BitVec.ofNat_add, Nat.add_sub_cancel' h1]

include hk hv in
theorem pay5_sel (i : Fin 16) (h : Sel s (16 * k + i.val)) :
    k0_pay5 (F := F) (count s (16 * k)) v (lane i) = BitVec.ofNat 32 (cnt s (16 * k + i.val)) := by
  rw [pay5_lane (F := F) s k hk v hv, cnt_succ, if_pos h, BitVec.ofNat_add]
  exact BitVec.add_sub_cancel _ _

include hk hv in
/-- The count after the trip. -/
theorem pay9_eq : k0_pay9 (F := F) (count s (16 * k)) v = count s (16 * (k + 1)) := by
  funext i
  have h1 := cnt_mono s (show 16 * k ≤ 16 * (k + 1) by omega)
  have h2 := scan_lane (F := F) s k hk v hv 15 (by decide)
  rw [pay9_apply, extract_last, h2]
  unfold count
  rw [← BitVec.ofNat_add]
  refine congrArg (BitVec.ofNat 32) ?_
  have h4 : 16 * k + 15 + 1 = 16 * (k + 1) := by omega
  rw [h4]
  omega

end Trip

/-- A signed word clipped to the interval from 0 to 127 is at most 127 read unsigned. -/
theorem clip_lt (x : BitVec 32) : (IntOp.minsi (IntOp.maxsi x 0#32) 127#32).toNat < 128 := by
  have h0 : (0#32).toInt = 0 := by decide
  have h1 : (127#32).toInt = 127 := by decide
  have hx := BitVec.toInt_eq_toNat_cond x
  by_cases hs : (0#32).slt x = true
  · rw [show IntOp.maxsi x 0#32 = x from if_pos hs]
    by_cases hm : x.slt 127#32 = true
    · rw [show IntOp.minsi x 127#32 = x from if_pos hm]
      simp only [BitVec.slt, h0, h1, decide_eq_true_eq] at hs hm
      split_ifs at hx <;> omega
    · rw [show IntOp.minsi x 127#32 = 127#32 from if_neg hm]; decide
  · rw [show IntOp.maxsi x 0#32 = 0#32 from if_neg hs]; decide

/-- The scatter's indices are inside the list whatever the trip reads. -/
theorem chk (a : IVec S16 32) (v : S16.Idx → BitVec 32) : k0_chk1 (k0_pay7 (F := F) a v) := by
  intro b x
  rw [Subsingleton.elim b 0]
  exact clip_lt (k0_pay5 (F := F) a v x)

/-- A clipped word in range is itself. -/
theorem clip_eq (x : BitVec 32) (h : x.toNat < 128) : IntOp.minsi (IntOp.maxsi x 0#32) 127#32 = x := by
  have h0 : (0#32).toInt = 0 := by decide
  have h1 : (127#32).toInt = 127 := by decide
  have hx : x.toInt = x.toNat := by rw [BitVec.toInt_eq_toNat_of_lt]; omega
  have hm : IntOp.maxsi x 0#32 = x := by
    by_cases hz : x.toNat = 0
    · have : x = 0#32 := BitVec.eq_of_toNat_eq (by simpa using hz)
      subst this; rfl
    · exact if_pos (by simp only [BitVec.slt, h0, hx, decide_eq_true_eq]; omega)
  rw [hm]
  by_cases c : x.slt 127#32 = true
  · exact if_pos c
  · refine (if_neg c).trans ?_
    simp only [BitVec.slt, hx, h1, decide_eq_true_eq, not_lt] at c
    exact BitVec.eq_of_toNat_eq (by simp; omega)

/-! ## The scatter -/

/-- A fold of masked single-element writes over some lanes: when every lane that names `p` writes the value `y`, entry
    `p` is `y` if a lane names it and unchanged otherwise. -/
theorem fold_writes {α ι κ : Type} (l : List κ) (hit : κ → ι → Prop) [∀ k p, Decidable (hit k p)] (y : κ → α) (f : ι → α) (p : ι) (z : α)
    (hz : ∀ k ∈ l, hit k p → y k = z) :
    l.foldl (fun g k => fun j => if hit k j then y k else g j) f p = if ∃ k ∈ l, hit k p then z else f p := by
  induction l generalizing f with
  | nil => simp
  | cons a l ih =>
    rw [List.foldl_cons, ih _ fun k hk => hz k (List.mem_cons_of_mem _ hk)]
    by_cases h : ∃ k ∈ l, hit k p
    · obtain ⟨k, hk, hh⟩ := h
      rw [if_pos ⟨k, hk, hh⟩, if_pos ⟨k, List.mem_cons_of_mem _ hk, hh⟩]
    · rw [if_neg h]
      by_cases ha : hit a p
      · rw [if_pos ha, if_pos ⟨a, List.mem_cons_self, ha⟩, hz a List.mem_cons_self ha]
      · rw [if_neg ha, if_neg]
        rintro ⟨k, hk, hh⟩
        rcases List.mem_cons.mp hk with rfl | hk
        · exact ha hh
        · exact h ⟨k, hk, hh⟩

/-- A masked scatter of sixteen lanes into the list, as a fold of masked single-element writes. -/
theorem storeIdx_eq_fold (f : S128.Idx → BitVec 32) (idx v : IVec S16 32) (mask : IVec S16 1)
    (h : ∀ a x, ((![idx] : Fin 1 → IVec S16 32) a x).toNat < S128.size a) :
    storeIdx (F := F) (s := S128) (e := .i32) f ![idx] v mask false h
      = (List.finRange 16).foldl (fun g k => fun j =>
          if mask (lane k) = 1 ∧ (j 0).val = (idx (lane k)).toNat then v (lane k) else g j) f := by
  unfold storeIdx
  apply congrFun
  apply congrFun
  apply congrArg
  funext g k j
  have hall : (∀ a : Fin S128.rank, (j a).val = (idxAt ![idx] h (lane k) a).val) ↔ (j 0).val = (idx (lane k)).toNat :=
    ⟨fun h => h 0, fun h a => by rw [Subsingleton.elim a 0]; exact h⟩
  by_cases h1 : mask (lane k) = 1
  · refine (congrFun (if_pos h1) j).trans ?_
    by_cases h2 : (j 0).val = (idx (lane k)).toNat
    · exact (if_pos (hall.2 h2)).trans (if_pos ⟨h1, h2⟩).symm
    · exact (if_neg fun h => h2 (hall.1 h)).trans (if_neg fun h => h2 h.2).symm
  · exact (congrFun (if_neg h1) j).trans (if_neg fun h => h1 h.1).symm

section Scatter

variable (s : S1024.Idx → BitVec 32) (k : ℕ) (hk : k < 64) (v : S16.Idx → BitVec 32) (hv : Reads s k v)

include hk hv in
/-- Lane `i` stores at list entry `p` exactly when its word is selected and has `p` selected words before it. -/
theorem hit_iff (i : Fin 16) (p : S128.Idx) :
    (k0_pay6 (F := F) (count s (16 * k)) v (lane i) = 1
        ∧ (p 0).val = (k0_pay7 (F := F) (count s (16 * k)) v (lane i)).toNat)
      ↔ (Sel s (16 * k + i.val) ∧ cnt s (16 * k + i.val) = (p 0).val) := by
  have hp : (p 0).val < 128 := (p 0).isLt
  show (IntOp.andi (k0_pay3 (F := F) v (lane i)) (BitVec.ofBool ((k0_pay5 (F := F) (count s (16 * k)) v (lane i)).slt 128#32)) = 1
      ∧ (p 0).val = (IntOp.minsi (IntOp.maxsi (k0_pay5 (F := F) (count s (16 * k)) v (lane i)) 0#32) 127#32).toNat) ↔ _
  rw [pay3_lane (F := F) s k hk v hv]
  by_cases h : Sel s (16 * k + i.val)
  · rw [if_pos h, pay5_sel (F := F) s k hk v hv i h]
    have hle := cnt_le s (16 * k + i.val)
    have hi := i.isLt
    generalize hc : cnt s (16 * k + i.val) = c at *
    have hcn : (BitVec.ofNat 32 c).toNat = c := by simp; omega
    have hslt : (BitVec.ofNat 32 c).slt 128#32 = decide (c < 128) := by
      have h1 : (128#32).toInt = 128 := by decide
      have hx : (BitVec.ofNat 32 c).toInt = c := by rw [BitVec.toInt_eq_toNat_of_lt (by omega), hcn]
      simp only [BitVec.slt, h1, hx]
      exact decide_eq_decide.mpr (by omega)
    rw [hslt]
    by_cases hlt : c < 128
    · rw [clip_eq _ (by omega), hcn, decide_eq_true hlt]
      exact ⟨fun ⟨_, e⟩ => ⟨h, e.symm⟩, fun ⟨_, e⟩ => ⟨by decide, e.symm⟩⟩
    · rw [decide_eq_false hlt]
      exact ⟨fun ⟨e, _⟩ => absurd e (by decide), fun ⟨_, e⟩ => by omega⟩
  · rw [if_neg h]
    refine ⟨fun ⟨e, _⟩ => absurd e ?_, fun ⟨e, _⟩ => absurd e h⟩
    cases (k0_pay5 (F := F) (count s (16 * k)) v (lane i)).slt 128#32 <;> decide

/-- The word lane `i` stores: its position. -/
theorem pay8_lane (k : Fin k0_t1_loop.trips) (i : Fin 16) : k0_pay8 k (lane i) = BitVec.ofNat 32 (16 * k.val + i.val) := by
  show (0#32 + BitVec.ofNat 32 k.val * 1#32) * 16#32 + BitVec.ofNat 32 (0 * 16 + i.val) = _
  apply BitVec.eq_of_toNat_eq
  simp
  omega

/-- One trip's scatter takes the list of the first `16 k` words to the list of the first `16 (k + 1)`. -/
theorem step_list (k : Fin k0_t1_loop.trips) (hk : k.val < 64) (v : S16.Idx → BitVec 32) (hv : Reads s k.val v)
    (h : ∀ a x, ((![k0_pay7 (F := F) (count s (16 * k.val)) v] : Fin 1 → IVec S16 32) a x).toNat < S128.size a) :
    storeIdx (F := F) (s := S128) (e := .i32) (list s (16 * k.val)) ![k0_pay7 (F := F) (count s (16 * k.val)) v] (k0_pay8 k)
        (k0_pay6 (F := F) (count s (16 * k.val)) v) false h = list s (16 * (k.val + 1)) := by
  rw [storeIdx_eq_fold]
  funext p
  rw [fold_writes _ (fun (i : Fin 16) (p : S128.Idx) => k0_pay6 (F := F) (count s (16 * k.val)) v (lane i) = 1
        ∧ (p 0).val = (k0_pay7 (F := F) (count s (16 * k.val)) v (lane i)).toNat) (fun i => k0_pay8 k (lane i)) _ p
        (BitVec.ofNat 32 (nth s (p 0).val))]
  · unfold list
    by_cases hold : (p 0).val < cnt s (16 * k.val)
    · rw [if_pos hold, if_pos (lt_of_lt_of_le hold (cnt_mono s (by omega)))]
      split_ifs <;> rfl
    · rw [if_neg hold]
      by_cases hnew : (p 0).val < cnt s (16 * (k.val + 1))
      · rw [if_pos hnew, if_pos]
        obtain ⟨j, hj, h1, h2, -⟩ := exists_of_lt_cnt s hnew
        have hge : 16 * k.val ≤ j := by
          by_contra hc
          exact hold (h2 ▸ cnt_lt s h1 (by omega))
        refine ⟨⟨j - 16 * k.val, by omega⟩, List.mem_finRange _, (hit_iff (F := F) s k.val hk v hv _ p).2 ?_⟩
        show Sel s (16 * k.val + (j - 16 * k.val)) ∧ cnt s (16 * k.val + (j - 16 * k.val)) = _
        rw [Nat.add_sub_cancel' hge]
        exact ⟨h1, h2⟩
      · rw [if_neg hnew, if_neg]
        rintro ⟨i, -, hi⟩
        obtain ⟨h1, h2⟩ := (hit_iff (F := F) s k.val hk v hv i p).1 hi
        exact hnew (h2 ▸ cnt_lt s h1 (by have := i.isLt; omega))
  · intro i _ hi
    obtain ⟨h1, h2⟩ := (hit_iff (F := F) s k.val hk v hv i p).1 hi
    rw [pay8_lane, ← h2, nth_cnt s h1]

end Scatter

end Cert.Proof.Compact

end
-- ==== Proof.Setup.lean ====
/-
  The program as the launch theorem sees it: one vector-subcore call over two SparseCores of sixteen tiles each, then one of
  two TensorCore pipelines. The resource algebra, the arrays the call deals out row by row, and what the handshakes carry:
  tile `(c, i)` is row `2 i + c` of thirty-two, takes its 1024 words of the mask and its rows of the two results, and brings
  them back with the results' rows at the compaction of its words (Proof/Compact.lean).
-/
module

public import proofs.«01_k».proof.Defs
public import proofs.«01_k».proof.Proof.Compact
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the transfers' counters -/

abbrev UH : Type := URounds (GSem nD τ sig) ℕ
abbrev UB : Type := UR sig nD τ
abbrev UU : Type := UH × (UB × Counters)

local notation "𝕄" => MT nD τ sig (HIx 1) (Elt F) ℕ UU ℕ

abbrev EH : Emb UH (MT nD τ sig (HIx 1) (Elt F) ℕ UU ℕ) := embL
/-- The pipelines' rounds library: the middle factor. -/
def EB : Emb UB (MT nD τ sig (HIx 1) (Elt F) ℕ UU ℕ) :=
  ((Emb.inl : Emb UB (UB × Counters)).trans (Emb.inr : Emb (UB × Counters) UU)).trans
    (uEmb (nD := nD) (τ := τ) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## The arrays of the call, and their rows -/

/-- The flat mask, the positions' result and the counts' result, as locations of device `d`. -/
abbrev xLoc (d : Dev nD) : Loc nD τ sig := (SparseCore.T d).loc main_v1
abbrev iLoc (d : Dev nD) : Loc nD τ sig := (SparseCore.T d).loc main_v7_0
abbrev nLoc (d : Dev nD) : Loc nD τ sig := (SparseCore.T d).loc main_v7_1

-- the kernel's memrefs as the body table passes them
local notation "xV" => (Memref.whole Cert.KernelIdeal.main_v1_scv : Memref Cert.KernelIdeal.sig Kind.scVector Space.hbm Cert.KernelIdeal.S32768 EltTy.i32)
local notation "iV" => (Memref.whole Cert.KernelIdeal.main_v7_0_scv : Memref Cert.KernelIdeal.sig Kind.scVector Space.hbm Cert.KernelIdeal.S32x1x128 EltTy.i32)
local notation "nV" => (Memref.whole Cert.KernelIdeal.main_v7_1_scv : Memref Cert.KernelIdeal.sig Kind.scVector Space.hbm Cert.KernelIdeal.S32x16 EltTy.i32)

theorem hdivX : 32 ∣ S32768.size 0 := ⟨1024, rfl⟩
theorem hdivI : 32 ∣ S32x1x128.size 0 := ⟨1, rfl⟩
theorem hdivN : 32 ∣ S32x16.size 0 := ⟨1, rfl⟩
/-- Row `w` of the mask (its 1024 words), of the positions and of the counts: one task's. -/
abbrev rowX (w : Fin 32) : Rect S32768 := Rect.part (s := S32768) (a₀ := 0) hdivX w
abbrev rowI (w : Fin 32) : Rect S32x1x128 := Rect.part (s := S32x1x128) (a₀ := 0) hdivI w
abbrev rowN (w : Fin 32) : Rect S32x16 := Rect.part (s := S32x16) (a₀ := 0) hdivN w
abbrev setX (w : Fin 32) : Finset S32768.Idx := ((xV).view.slice (rowX w)).set
abbrev setI (w : Fin 32) : Finset S32x1x128.Idx := ((iV).view.slice (rowI w)).set
abbrev setN (w : Fin 32) : Finset S32x16.Idx := ((nV).view.slice (rowN w)).set

/-- The row of tile `(c, i)`. -/
def wid (c : Fin 2) (i : Fin 16) : Fin 32 := ⟨2 * i.val + c.val, by omega⟩

/-! ## The results' contents, from the mask -/

/-- The 1024 mask words of row `w`. -/
def seg (M : S32768.Idx → BitVec 32) (w : Fin 32) : S1024.Idx → BitVec 32 := fun j =>
  M (Shape.ofLane (d := ![32768]) ⟨1024 * w.val + (j 0).val, by have := (j 0).isLt; have : S1024.size 0 = 1024 := rfl; have := w.isLt; show _ < 32768; omega⟩)

/-- The positions' result: row `w` lists the first selected positions of row `w` of the mask. -/
def idxV (M : S32768.Idx → BitVec 32) : S32x1x128.Idx → BitVec 32 := fun p =>
  Compact.list (seg M (p 0)) 1024 (Shape.ofLane (d := ![128]) (p 2))

/-- The counts' result: row `w` holds, sixteen times, how many words of row `w` of the mask are selected. -/
def cntV (M : S32768.Idx → BitVec 32) : S32x16.Idx → BitVec 32 := fun p =>
  Compact.count (seg M (p 0)) 1024 (Compact.lane (p 1))

variable (M : Dev nD → S32768.Idx → BitVec 32)

abbrev xPts (d : Dev nD) : sProp 𝕄 := xLoc d ↦{fullShare} (M d : Buf (Elt F) (xLoc d))
abbrev iPts (d : Dev nD) (f : S32x1x128.Idx → BitVec 32) : sProp 𝕄 := iLoc d ↦{fullShare} (f : Buf (Elt F) (iLoc d))
abbrev nPts (d : Dev nD) (f : S32x16.Idx → BitVec 32) : sProp 𝕄 := nLoc d ↦{fullShare} (f : Buf (Elt F) (nLoc d))
abbrev xRowPts (d : Dev nD) (w : Fin 32) : sProp 𝕄 := xLoc d ↦[setX w]{fullShare} (M d : Buf (Elt F) (xLoc d))
abbrev iRowPts (d : Dev nD) (w : Fin 32) (f : S32x1x128.Idx → BitVec 32) : sProp 𝕄 := iLoc d ↦[setI w]{fullShare} f
abbrev nRowPts (d : Dev nD) (w : Fin 32) (f : S32x16.Idx → BitVec 32) : sProp 𝕄 := nLoc d ↦[setN w]{fullShare} f

/-- What tile `w` is handed: its words of the mask, its rows of the results at whatever they hold. -/
abbrev goRow (d : Dev nD) (w : Fin 32) : sProp 𝕄 := iprop(xRowPts M d w ∗ (∃ f, iRowPts d w f) ∗ ∃ f, nRowPts d w f)
/-- What tile `w` brings back: its words unchanged, its rows of the results at the compaction. -/
abbrev tdRow (d : Dev nD) (w : Fin 32) : sProp 𝕄 := iprop(xRowPts M d w ∗ iRowPts d w (idxV (M d)) ∗ nRowPts d w (cntV (M d)))

/-- The one call: each SparseCore takes its sixteen tiles' rows and brings them back. -/
def P : (K (F := F)).Pay (nD := nD) (Val := Elt F) (Name := ℕ) (U := UU) where
  st := fun q d c => match q with | 0 => bigSep Finset.univ fun i : Fin 16 => goRow M d (wid (Fin.cast nCore_zero c) i)
  dn := fun q d c => match q with | 0 => bigSep Finset.univ fun i : Fin 16 => tdRow M d (wid (Fin.cast nCore_zero c) i)
  go := fun q d c i => match q with | 0 => goRow M d (wid (Fin.cast nCore_zero c) (Fin.cast nSub_zero i))
  td := fun q d c i => match q with | 0 => tdRow M d (wid (Fin.cast nCore_zero c) (Fin.cast nSub_zero i))
  x := fun _ _ => iprop(emp)

instance P_storable : (P (F := F) M).IsStorable where
  st q d c := match q with
    | 0 => (inferInstance : BI.Storable (upEmb : UEmb _ 𝕄) (bigSep Finset.univ fun i : Fin 16 => goRow M d (wid (Fin.cast nCore_zero c) i)))
  dn q d c := match q with
    | 0 => (inferInstance : BI.Storable (upEmb : UEmb _ 𝕄) (bigSep Finset.univ fun i : Fin 16 => tdRow M d (wid (Fin.cast nCore_zero c) i)))
  go q d c i := match q with
    | 0 => (inferInstance : BI.Storable (upEmb : UEmb _ 𝕄) (goRow M d (wid (Fin.cast nCore_zero c) (Fin.cast nSub_zero i))))
  td q d c i := match q with
    | 0 => (inferInstance : BI.Storable (upEmb : UEmb _ 𝕄) (tdRow M d (wid (Fin.cast nCore_zero c) (Fin.cast nSub_zero i))))

end Cert.Proof

end
-- ==== Proof.Tile.lean ====
/-
  One tile's task, at a symbolic (SparseCore, tile): the copy of its 1024 words of the mask, the zeroing of its list, the
  loop of sixty-four trips whose invariant is the compaction of the words read so far (Proof/Compact.lean), and the copies of
  the list and of the count to its rows of the two results.
-/
module

public import proofs.«01_k».proof.Proof.Setup
public import Idealize.ShloMosaic.Lib.Pipeline.Value

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v1_scv : Memref Cert.KernelIdeal.sig Kind.scVector Space.hbm Cert.KernelIdeal.S32768 EltTy.i32)
local notation "iV" => (Memref.whole Cert.KernelIdeal.main_v7_0_scv : Memref Cert.KernelIdeal.sig Kind.scVector Space.hbm Cert.KernelIdeal.S32x1x128 EltTy.i32)
local notation "nV" => (Memref.whole Cert.KernelIdeal.main_v7_1_scv : Memref Cert.KernelIdeal.sig Kind.scVector Space.hbm Cert.KernelIdeal.S32x16 EltTy.i32)
local notation "sA" => (Memref.whole Cert.KernelIdeal.cc0_scratch0 : Memref Cert.KernelIdeal.sig Kind.scVector Space.vmem Cert.KernelIdeal.S1024 EltTy.i32)
local notation "sB" => (Memref.whole Cert.KernelIdeal.cc0_scratch1 : Memref Cert.KernelIdeal.sig Kind.scVector Space.vmem Cert.KernelIdeal.S128 EltTy.i32)
local notation "sC" => (Memref.whole Cert.KernelIdeal.cc0_scratch2 : Memref Cert.KernelIdeal.sig Kind.scVector Space.vmem Cert.KernelIdeal.S16 EltTy.i32)

variable (M : Dev nD → S32768.Idx → BitVec 32) (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- The row of the task at grid point `L`. -/
abbrev wL (L : grid0.Coords) : Fin 32 := wid (Fin.cast bound_zero (L 0)) (Fin.cast bound_one (L 1))

/-- The task's parts of the three arrays, as the body spells them. -/
abbrev rowXK (L : grid0.Coords) : Rect S32768 := Rect.unit (s := S32768) (k0_off1 L) S1024.size (k0_off1_inb L)
abbrev xK (L : grid0.Coords) : Memref sig .scVector .hbm S1024 .i32 := (xV).slice (rowXK L) (fun _ => rfl)
abbrev rowIK (L : grid0.Coords) : Rect S32x1x128 := Rect.unit (s := S32x1x128) (k0_off3 L) S1x1x128.size (k0_off3_inb L)
abbrev iK (L : grid0.Coords) : Memref sig .scVector .hbm S128 .i32 := ((iV).slice (rowIK L) (fun _ => rfl)).squeeze S128 squeezes_S1x1x128_S128
abbrev rowNK (L : grid0.Coords) : Rect S32x16 := Rect.unit (s := S32x16) (k0_off4 L) S1x16.size (k0_off4_inb L)
abbrev nK (L : grid0.Coords) : Memref sig .scVector .hbm S16 .i32 := ((nV).slice (rowNK L) (fun _ => rfl)).squeeze S16 squeezes_S1x16_S16

theorem rowXK_eq : rowXK L = rowX (wL L) := by
  unfold rowXK rowX Rect.part Rect.block
  congr 1 <;> funext a
  · rw [k0_off1_eq]
    match a with
    | 0 =>
      have h1 : (Fin.cast bound_one (L 1)).val = (L 1).val := rfl
      have h0 : (Fin.cast bound_zero (L 0)).val = (L 0).val := rfl
      simp only [Shape.partIx, Shape.partSize, wid, h0, h1]
      show 2048 * (L 1).val + 1024 * (L 0).val = (2 * (L 1).val + (L 0).val) * 1024
      omega
  · match a with
    | 0 => simp [Shape.partSize]
theorem rowIK_eq : rowIK L = rowI (wL L) := by
  unfold rowIK rowI Rect.part Rect.block
  congr 1 <;> funext a
  · rw [k0_off3_eq]
    match a with
    | 0 => simp [Shape.partIx, Shape.partSize, wid]; try rfl
    | 1 => simp [Shape.partIx, Shape.partSize]
    | 2 => simp [Shape.partIx, Shape.partSize]
  · match a with
    | 0 => simp [Shape.partSize]
    | 1 => simp [Shape.partSize]
    | 2 => simp [Shape.partSize]
theorem rowNK_eq : rowNK L = rowN (wL L) := by
  unfold rowNK rowN Rect.part Rect.block
  congr 1 <;> funext a
  · rw [k0_off4_eq]
    match a with
    | 0 => simp [Shape.partIx, Shape.partSize, wid]; try rfl
    | 1 => simp [Shape.partIx, Shape.partSize]
  · match a with
    | 0 => simp [Shape.partSize]
    | 1 => simp [Shape.partSize]

theorem set_xK : (xK L).view.set = setX (wL L) := by
  show ((xV).view.slice (rowXK L)).set = ((xV).view.slice (rowX (wL L))).set
  exact rowXK_eq L ▸ rfl
theorem set_iK : (iK L).view.set = setI (wL L) := by
  show (((iV).view.slice (rowIK L)).reshape S128 squeezes_S1x1x128_S128.numel_eq).set = ((iV).view.slice (rowI (wL L))).set
  rw [View.set_reshape]
  exact rowIK_eq L ▸ rfl
theorem set_nK : (nK L).view.set = setN (wL L) := by
  show (((nV).view.slice (rowNK L)).reshape S16 squeezes_S1x16_S16.numel_eq).set = ((nV).view.slice (rowN (wL L))).set
  rw [View.set_reshape]
  exact rowNK_eq L ▸ rfl

theorem pts_xK (f : Buf (Elt F) (xLoc d)) :
    ((xK L).view.loc (V d (cV L) (jV L)) ↦[(xK L).view.set]{fullShare} f : sProp 𝕄) = xLoc d ↦[setX (wL L)]{fullShare} f := by
  rw [set_xK]
theorem pts_iK (f : Buf (Elt F) (iLoc d)) :
    ((iK L).view.loc (V d (cV L) (jV L)) ↦[(iK L).view.set]{fullShare} f : sProp 𝕄) = iLoc d ↦[setI (wL L)]{fullShare} f := by
  rw [set_iK]
theorem pts_nK (f : Buf (Elt F) (nLoc d)) :
    ((nK L).view.loc (V d (cV L) (jV L)) ↦[(nK L).view.set]{fullShare} f : sProp 𝕄) = nLoc d ↦[setN (wL L)]{fullShare} f := by
  rw [set_nK]
theorem pts_sA (f : Buf (Elt F) ((V d (cV L) (jV L)).loc cc0_scratch0)) :
    ((sA).view.loc (V d (cV L) (jV L)) ↦{fullShare} f : sProp 𝕄) = (V d (cV L) (jV L)).loc cc0_scratch0 ↦{fullShare} f := rfl
theorem pts_sB (f : Buf (Elt F) ((V d (cV L) (jV L)).loc cc0_scratch1)) :
    ((sB).view.loc (V d (cV L) (jV L)) ↦{fullShare} f : sProp 𝕄) = (V d (cV L) (jV L)).loc cc0_scratch1 ↦{fullShare} f := rfl
theorem pts_sC (f : Buf (Elt F) ((V d (cV L) (jV L)).loc cc0_scratch2)) :
    ((sC).view.loc (V d (cV L) (jV L)) ↦{fullShare} f : sProp 𝕄) = (V d (cV L) (jV L)).loc cc0_scratch2 ↦{fullShare} f := rfl

/-- The three DMA cells of the task's copies. -/
abbrev c0cell (d : Dev nD) (c : Fin τ.nSC) (i : Fin τ.nSub) : GSem nD τ sig := (V d c i, .dma cc0_scoped0.sem)
abbrev c1cell (d : Dev nD) (c : Fin τ.nSC) (i : Fin τ.nSub) : GSem nD τ sig := (V d c i, .dma cc0_scoped1.sem)
abbrev c2cell (d : Dev nD) (c : Fin τ.nSC) (i : Fin τ.nSub) : GSem nD τ sig := (V d c i, .dma cc0_scoped2.sem)

theorem ownSems0_V :
    (ownSems0 (V d (cV L) (jV L)) : sProp 𝕄)
      = iprop(semVal (c0cell d (cV L) (jV L)) 0 ∗ semVal (c1cell d (cV L) (jV L)) 0 ∗ semVal (c2cell d (cV L) (jV L)) 0
          ∗ bigSep ((((ownCells (V d (cV L) (jV L))).erase (c0cell d (cV L) (jV L))).erase (c1cell d (cV L) (jV L))).erase (c2cell d (cV L) (jV L)))
              fun g => semVal g 0) := by
  unfold SparseCore.Cfg.ownSems0
  rw [SparseCore.bigSep_erase' ((mem_ownCells (g := c0cell d (cV L) (jV L))).mpr ⟨rfl, by
      show (SemLoc.dma cc0_scoped0.sem : SemLoc sig).isScoped .scVector = true; decide⟩),
    SparseCore.bigSep_erase' (Finset.mem_erase.mpr ⟨by simp [c0cell, c1cell]; decide, (mem_ownCells (g := c1cell d (cV L) (jV L))).mpr ⟨rfl, by
      show (SemLoc.dma cc0_scoped1.sem : SemLoc sig).isScoped .scVector = true; decide⟩⟩),
    SparseCore.bigSep_erase' (Finset.mem_erase.mpr ⟨by simp [c1cell, c2cell]; decide, Finset.mem_erase.mpr ⟨by simp [c0cell, c2cell]; decide,
      (mem_ownCells (g := c2cell d (cV L) (jV L))).mpr ⟨rfl, by show (SemLoc.dma cc0_scoped2.sem : SemLoc sig).isScoped .scVector = true; decide⟩⟩⟩)]

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩)]

variable [FloatOps F]

/-- The loop's invariant: before trip `k` the carried count and the list are the compaction of the first `16 k` words. -/
def inv (s : S1024.Idx → BitVec 32) (k : ℕ) (acc : IVec S16 32) : sProp 𝕄 :=
  iprop(⌜acc = Compact.count s (16 * k)⌝
    ∗ ((sA).view.loc (V d (cV L) (jV L)) ↦{fullShare} (s : Buf (Elt F) ((V d (cV L) (jV L)).loc cc0_scratch0)))
    ∗ ((sB).view.loc (V d (cV L) (jV L)) ↦{fullShare} (Compact.list s (16 * k) : Buf (Elt F) ((V d (cV L) (jV L)).loc cc0_scratch1))))

/-- What the first copy lands in the scratch: the task's words of the mask. -/
theorem landed_seg (f : S1024.Idx → BitVec 32) :
    View.write (Elt F) (sA).view f (View.read (Elt F) (xK L).view (M d)) Finset.univ = seg (M d) (wL L) := by
  rw [View.write_whole_univ]
  funext j
  rw [View.read_apply]
  unfold seg
  refine congrArg (M d) ?_
  funext (a : Fin 1)
  rw [Subsingleton.elim a 0]
  apply Fin.ext
  show (k0_off1 L) 0 + 1 * (j 0).val = _
  rw [k0_off1_eq]
  show 2048 * (L 1).val + 1024 * (L 0).val + 1 * (j 0).val = 1024 * (2 * (L 1).val + (L 0).val) + (j 0).val
  omega

theorem pts_landed (f : S1024.Idx → BitVec 32) :
    ((sA).view.loc (V d (cV L) (jV L)) ↦{fullShare} View.write (Elt F) (sA).view f (View.read (Elt F) (xK L).view (M d)) Finset.univ : sProp 𝕄)
      = ((sA).view.loc (V d (cV L) (jV L)) ↦{fullShare} (seg (M d) (wL L) : Buf (Elt F) ((V d (cV L) (jV L)).loc cc0_scratch0))) := by
  rw [landed_seg]

/-- Stores of zeros that cover the list leave the empty list. -/
theorem pts_zeroed (f : Buf (Elt F) ((V d (cV L) (jV L)).loc cc0_scratch1)) (s : S1024.Idx → BitVec 32)
    (l : List (View.Piece (Elt F) S128 .i32)) (hz : ∀ p ∈ l, ∀ x, p.2 x = (0#32 : BitVec 32)) (hc : ∀ y, ∃ p ∈ l, y ∈ p.1.set) :
    ((sB).view.loc (V d (cV L) (jV L)) ↦{fullShare} (sB).view.writes (Elt F) f l : sProp 𝕄)
      = ((sB).view.loc (V d (cV L) (jV L)) ↦{fullShare} (Compact.list s (16 * 0) : Buf (Elt F) ((V d (cV L) (jV L)).loc cc0_scratch1))) := by
  have e : (sB).view.writes (Elt F) f l = (fun _ => (0#32 : BitVec 32)) := by
    funext y
    exact View.read_writes_apply_of_pieces (sB).view f (fun _ => (0#32 : BitVec 32)) l hz y (hc y)
  rw [e, Nat.mul_zero, Compact.list_zero]

/-- The words one trip reads. -/
theorem reads_trip (s : S1024.Idx → BitVec 32) (k : Fin k0_t1_loop.trips) :
    Compact.Reads s k.val (View.readAt (Elt F) (sA).view (Rect.unit (s := S1024) (k0_off2 k) S16.size (k0_off2_inb k)).toLoadRect s) := by
  intro i h
  rw [View.readAt_apply, View.read_apply]
  refine congrArg s ?_
  funext (a : Fin 1)
  rw [Subsingleton.elim a 0]
  apply Fin.ext
  show (k0_off2 k) 0 + 1 * i.val = 16 * k.val + i.val
  rw [k0_off2_eq]
  show 16 * k.val + 1 * i.val = _
  omega

theorem pts_sB_access (f : Buf (Elt F) ((V d (cV L) (jV L)).loc cc0_scratch1)) :
    (((sB).access (.whole S128)).loc (V d (cV L) (jV L)) ↦[((sB).access (.whole S128)).set]{fullShare} f : sProp 𝕄)
      = ((sB).view.loc (V d (cV L) (jV L)) ↦{fullShare} f) := by
  rw [show ((sB).access (.whole S128)).set = Finset.univ from Memref.set_access_whole (cc0_scratch1 : Ref sig .scVector)]

/-- One trip of the loop. -/
theorem trip (s : S1024.Idx → BitVec 32) (k : Fin k0_t1_loop.trips) :
    inv (F := F) d L s k.val (Compact.count s (16 * k.val))
      ⊢ wp frame (wpE (defs₀ (F := F)) 𝒱₀ (V d (cV L) (jV L)) none) Set.univ
          (k0_t1_body L xV (Memref.isWhole_whole _) iV (Memref.isWhole_whole _) nV (Memref.isWhole_whole _)
            sA (Memref.isWhole_whole _) sB (Memref.isWhole_whole _) sC (Memref.isWhole_whole _) cc0_scoped0 cc0_scoped1 cc0_scoped2
            k (Compact.count s (16 * k.val)))
          fun acc => inv (F := F) d L s (k.val + 1) acc := by
  have hk : k.val < 64 := lt_of_lt_of_le k.isLt k0_t1_abs.2.1
  unfold inv
  iintro ⟨-, Ha, Hb⟩
  unfold k0_t1_body
  sl_exec
  have hv := reads_trip (F := F) s k
  generalize hw : View.readAt (Elt F) (sA).view (Rect.unit (s := S1024) (k0_off2 k) S16.size (k0_off2_inb k)).toLoadRect s = v at hv
  have hchk : k0_chk1 (trip.sl.v36 (F := F) s k) := Compact.chk (F := F) _ _
  rw [wp_assume_of _ _ _ _ hchk]
  ihave Hb' := (Entails.of_eq (pts_sB_access (F := F) d L _).symm) $$ Hb
  iapply (SparseCore.wp_vectorStoreIdx 𝒱₀ (V d (cV L) (jV L)) none Set.univ (base := sB)) $$ Hb'
  iintro Hb
  ihave Hb' := (Entails.of_eq (pts_sB_access (F := F) d L _)) $$ Hb
  sl_step
  isplitr
  · ipureintro
    exact Compact.pay9_eq (F := F) s k.val hk v hv
  isplitl [Ha]; · iexact Ha
  have e : ((sB).access (.whole S128)).write (Elt F) (Compact.list s (16 * k.val))
      (storeIdx (((sB).access (.whole S128)).read (Elt F) (Compact.list s (16 * k.val))) ![trip.sl.v36 (F := F) s k] (k0_pay8 k)
        (k0_pay6 (F := F) (Compact.count s (16 * k.val)) v) false hchk) Finset.univ = Compact.list s (16 * (k.val + 1)) := by
    rw [show ((sB).access (.whole S128)).read (Elt F) (Compact.list s (16 * k.val)) = Compact.list s (16 * k.val) from Memref.read_access_whole (Elt F) _ _]
    refine (Memref.write_access_whole_univ (Elt F) (cc0_scratch1 : Ref sig .scVector) _ _).trans ?_
    subst hw
    exact Compact.step_list (F := F) s k hk _ hv _
  iapply (Entails.of_eq (congrArg (fun g : Buf (Elt F) ((V d (cV L) (jV L)).loc cc0_scratch1) => ((sB).view.loc (V d (cV L) (jV L)) ↦{fullShare} g : sProp 𝕄)) e))
  iexact Hb'

theorem idx_S128 (x : S128.Idx) : (Shape.reshapeEquiv squeezes_S1x1x128_S128.numel_eq x : S1x1x128.Idx) = Fin.cons (0 : Fin 1) (Fin.cons (0 : Fin 1) x) := by
  rw [← Shape.reshapeEquiv_reshapeEquiv (s := S1x1x128) (s' := ⟨2, ![1, 128]⟩) (s'' := S128) (by decide) (by decide) x]
  rw [Shape.reshapeEquiv_cons_one (d := ![128])]
  exact Shape.reshapeEquiv_cons_one (d := ![1, 128]) _ _

theorem idx_S16 (x : S16.Idx) : (Shape.reshapeEquiv squeezes_S1x16_S16.numel_eq x : S1x16.Idx) = Fin.cons (0 : Fin 1) x :=
  Shape.reshapeEquiv_cons_one (d := ![16]) _ _

/-- The list's copy, landed in the task's row of the positions. -/
theorem pts_idx (f : Buf (Elt F) (iLoc d)) :
    ((iK L).view.loc (V d (cV L) (jV L)) ↦[(iK L).view.set]{fullShare}
        (iK L).view.writes (Elt F) f [⟨Rect.whole S128, View.read (Elt F) (sB).view (Compact.list (seg (M d) (wL L)) 1024)⟩] : sProp 𝕄)
      = iLoc d ↦[setI (wL L)]{fullShare} (idxV (M d) : Buf (Elt F) (iLoc d)) := by
  rw [← pts_iK]
  refine pointsTo_congr fun i hi => ?_
  obtain ⟨x, rfl⟩ := View.exists_emb_of_mem_set _ hi
  have h := View.read_writes_cons_emb (iK L).view f (Rect.whole S128) (View.read (Elt F) (sB).view (Compact.list (seg (M d) (wL L)) 1024)) [] x
  rw [Rect.emb_whole_apply] at h
  refine Eq.trans (show _ = View.read (Elt F) (iK L).view _ x from rfl) (h.trans ?_)
  show Compact.list (seg (M d) (wL L)) 1024 x = idxV (M d) ((rowIK L).emb (Shape.reshapeEquiv squeezes_S1x1x128_S128.numel_eq x))
  rw [idx_S128]
  unfold idxV
  have e0 : ((rowIK L).emb (Fin.cons (0 : Fin 1) (Fin.cons (0 : Fin 1) x))) 0 = wL L := by
    apply Fin.ext
    show (k0_off3 L) 0 + 1 * 0 = _
    rw [k0_off3_eq]; rfl
  have e2 : Shape.ofLane (d := ![128]) (((rowIK L).emb (Fin.cons (0 : Fin 1) (Fin.cons (0 : Fin 1) x))) 2) = x := by
    funext (a : Fin 1)
    rw [Subsingleton.elim a 0]
    apply Fin.ext
    show (k0_off3 L) 2 + 1 * (x 0).val = _
    rw [k0_off3_eq]
    show 0 + 1 * (x 0).val = _
    omega
  rw [e0, e2]

/-- The count's copy, landed in the task's row of the counts. -/
theorem pts_cnt (f : Buf (Elt F) (nLoc d)) (w : S16.Idx → BitVec 32) (hw : w = Compact.count (seg (M d) (wL L)) 1024) :
    ((nK L).view.loc (V d (cV L) (jV L)) ↦[(nK L).view.set]{fullShare}
        (nK L).view.writes (Elt F) f [⟨Rect.whole S16, w⟩] : sProp 𝕄)
      = nLoc d ↦[setN (wL L)]{fullShare} (cntV (M d) : Buf (Elt F) (nLoc d)) := by
  subst hw
  rw [← pts_nK]
  refine pointsTo_congr fun i hi => ?_
  obtain ⟨x, rfl⟩ := View.exists_emb_of_mem_set _ hi
  have h := View.read_writes_cons_emb (nK L).view f (Rect.whole S16) (Compact.count (seg (M d) (wL L)) 1024) [] x
  rw [Rect.emb_whole_apply] at h
  refine Eq.trans (show _ = View.read (Elt F) (nK L).view _ x from rfl) (h.trans ?_)
  show Compact.count (seg (M d) (wL L)) 1024 x = cntV (M d) ((rowNK L).emb (Shape.reshapeEquiv squeezes_S1x16_S16.numel_eq x))
  rw [idx_S16]
  unfold cntV
  have e0 : ((rowNK L).emb (Fin.cons (0 : Fin 1) x)) 0 = wL L := by
    apply Fin.ext
    show (k0_off4 L) 0 + 1 * 0 = _
    rw [k0_off4_eq]; rfl
  rw [e0]
  rfl

/-- The count's buffer after its one store, read back. -/
theorem cnt_written (f : Buf (Elt F) ((V d (cV L) (jV L)).loc cc0_scratch2)) (a : S1024.Idx → BitVec 32) (w : S16.Idx → BitVec 32)
    (hw : w = Compact.count a (16 * k0_t1_loop.trips)) :
    View.read (Elt F) (sC).view ((sC).view.writes (Elt F) f [⟨Rect.unit ![0] S16.size inb_S16_S16_0, w⟩]) = Compact.count a 1024 := by
  subst hw
  funext x
  have h := View.read_writes_cons_emb (sC).view f (Rect.unit ![0] S16.size inb_S16_S16_0) (Compact.count a (16 * k0_t1_loop.trips)) [] x
  have e : (Rect.unit (s := S16) ![0] S16.size inb_S16_S16_0).emb x = x := by
    funext (a : Fin 1)
    rw [Subsingleton.elim a 0]
    apply Fin.ext
    show 0 + 1 * (x 0).val = _
    omega
  rw [e] at h
  exact h

/-- A tile's task: handed its words of the mask and its rows of the results, it brings them back at the compaction. -/
theorem tile_body (hF : (K (F := F)).Facts) (O : CellTallies nD τ sig (HIx 1)) (W : Waits sig (HIx 1)) (hO : ∀ g, O g none = 0) :
    iprop(levAts (K (F := F)).L (K (F := F)).lev ∗ emp ∗ goRow M d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_compact L xV (Memref.isWhole_whole _) iV (Memref.isWhole_whole _) nV (Memref.isWhole_whole _)
            sA (Memref.isWhole_whole _) sB (Memref.isWhole_whole _) sC (Memref.isWhole_whole _) cc0_scoped0 cc0_scoped1 cc0_scoped2)
          fun _ => iprop(tdRow M d (wL L)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V]
  iintro ⟨#Hlv, -, ⟨Hx, ⟨%fi, Hi⟩, ⟨%fn, Hn⟩⟩, ⟨⟨%fa, Ha⟩, ⟨%fb, Hb⟩, ⟨%fc, Hc⟩, Hbufs⟩, ⟨Hsem0, Hsem1, Hsem2, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx' := (Entails.of_eq (pts_xK (F := F) d L _).symm) $$ Hx
  ihave Hi' := (Entails.of_eq (pts_iK (F := F) d L _).symm) $$ Hi
  ihave Hn' := (Entails.of_eq (pts_nK (F := F) d L _).symm) $$ Hn
  ihave Ha' := (Entails.of_eq (pts_sA (F := F) d L _).symm) $$ Ha
  ihave Hb' := (Entails.of_eq (pts_sB (F := F) d L _).symm) $$ Hb
  ihave Hc' := (Entails.of_eq (pts_sC (F := F) d L _).symm) $$ Hc
  sl_unfold [cc0__sc_compact, k0_part1]
  sl_exec (disch := exact View.amount_pos _ _ (show 0 < S1024.numel by decide))
  ihave Ha := (Entails.of_eq (show ((sA).view.loc (V d (cV L) (jV L)) ↦{fullShare} View.write (Elt F) (sA).view fa (tile_body.sl.dma0 M d L) Finset.univ : sProp 𝕄) = _
    from pts_landed (F := F) M d L fa)) $$ Ha'
  ihave Hb := (Entails.of_eq (pts_zeroed (F := F) d L _ (seg (M d) (wL L)) _
    (fun p hp x => by fin_cases hp <;> rfl) (View.cover_of_tiled _ S16.size rfl))) $$ Hb'
  sl_for (inv (F := F) d L (seg (M d) (wL L))) $$ [Ha Hb]
  case region =>
    intro k _
    unfold inv
    iintro ⟨%hacc, Ha, Hb⟩
    subst hacc
    iapply (show _ ⊢ _ from trip (F := F) d L (seg (M d) (wL L)) k) $$ [Ha Hb]
    unfold inv
    isplitr; · ipureintro; rfl
    isplitl [Ha]; · iexact Ha
    iexact Hb
  · unfold inv
    isplitr; · ipureintro; rw [Nat.mul_zero, Compact.count_zero]; rfl
    isplitl [Ha]; · iexact Ha
    iexact Hb
  iintro %acc HI
  unfold inv
  icases HI with ⟨%hacc, Ha, Hb⟩
  sl_exec (disch := exact View.amount_pos _ _ (show 0 < S1024.numel by decide))
  sl_step
  subst hacc
  isplitl [Hx' Hi' Hn']
  · isplitl [Hx']; · iapply (Entails.of_eq (pts_xK (F := F) d L _)); iexact Hx'
    isplitl [Hi']; · iapply (Entails.of_eq (pts_idx (F := F) M d L _)); iexact Hi'
    iapply (Entails.of_eq (pts_cnt (F := F) M d L _ (tile_body.sl.dma2 d L fc (Compact.count (seg (M d) (wL L)) (16 * k0_t1_loop.trips)))
      (cnt_written (F := F) d L fc _ _ rfl))); iexact Hn'
  isplitl [Ha Hb Hc' Hbufs]
  · isplitl [Ha]; · iexists _; iexact Ha
    isplitl [Hb]; · iexists _; iexact Hb
    isplitl [Hc']; · iexists _; iexact Hc'
    iexact Hbufs
  isplitl [Hsem0 Hsem1 Hsem2 Hsems]
  · isplitl [Hsem0]; · iexact Hsem0
    isplitl [Hsem1]; · iexact Hsem1
    isplitl [Hsem2]; · iexact Hsem2
    iexact Hsems
  iexists _; isplitr
  swap; · iexact HO
  ipureintro; intro p _
  rcases p.2 with _ | q
  · exact .inr (.inl rfl)
  · exact .inr (.inr (congrArg some (Subsingleton.elim q 0)))

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_compact (coordsV c s) xV (Memref.isWhole_whole _) iV (Memref.isWhole_whole _) nV (Memref.isWhole_whole _)
          sA (Memref.isWhole_whole _) sB (Memref.isWhole_whole _) sC (Memref.isWhole_whole _) cc0_scoped0 cc0_scoped1 cc0_scoped2) ⟨⟩ c s := rfl

/-- Every tile meets its obligation at the call. -/
theorem tileObl (hF : (K (F := F)).Facts) : (K (F := F)).TileObl (D (F := F)) 𝒱 (P M) v₀ 0 := by
  intro d c i O W hO _ _
  simp only [show (P (F := F) M).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body (F := F) M d (coordsV ⟨_, hci.1⟩ ⟨_, hci.2⟩) hF O W hO

/-! ## The rows split and join -/

omit [FloatOps F] in
theorem setX_eq (w : Fin 32) : setX w = (rowX w).set := by
  show ((View.whole (main_v1_scv : Ref sig .scVector)).slice (rowX w)).set = _
  rw [View.set_slice]; exact Finset.map_refl
omit [FloatOps F] in
theorem setI_eq (w : Fin 32) : setI w = (rowI w).set := by
  show ((View.whole (main_v7_0_scv : Ref sig .scVector)).slice (rowI w)).set = _
  rw [View.set_slice]; exact Finset.map_refl
omit [FloatOps F] in
theorem setN_eq (w : Fin 32) : setN w = (rowN w).set := by
  show ((View.whole (main_v7_1_scv : Ref sig .scVector)).slice (rowN w)).set = _
  rw [View.set_slice]; exact Finset.map_refl

/-- The tasks, over the SparseCores and their tiles, are the thirty-two rows. -/
def widE : Fin 2 × Fin 16 ≃ Fin 32 where
  toFun p := wid p.1 p.2
  invFun w := (⟨w.val % 2, Nat.mod_lt _ (by decide)⟩, ⟨w.val / 2, by have := w.isLt; omega⟩)
  left_inv p := by
    obtain ⟨c, i⟩ := p
    apply Prod.ext
    · apply Fin.ext; show (2 * i.val + c.val) % 2 = c.val; have := c.isLt; omega
    · apply Fin.ext; show (2 * i.val + c.val) / 2 = i.val; have := c.isLt; omega
  right_inv w := by apply Fin.ext; show 2 * (w.val / 2) + w.val % 2 = w.val; omega

omit [FloatOps F] in
theorem xPts_rows : (xPts (F := F) M d) = bigSep Finset.univ fun w : Fin 32 => xRowPts (F := F) M d w := by
  refine Eq.trans ?_ (pointsTo_biUnion Finset.univ (ℓ := xLoc d) setX fun i _ j _ h => ?_)
  · rw [(Finset.biUnion_congr rfl fun i _ => setX_eq i).trans (Rect.biUnion_part hdivX)]
  · rw [setX_eq, setX_eq]; exact Rect.part_disjoint hdivX h
omit [FloatOps F] in
theorem iPts_rows (f : S32x1x128.Idx → BitVec 32) : (iPts (F := F) d f) = bigSep Finset.univ fun w : Fin 32 => iRowPts (F := F) d w f := by
  refine Eq.trans ?_ (pointsTo_biUnion Finset.univ (ℓ := iLoc d) setI fun i _ j _ h => ?_)
  · rw [(Finset.biUnion_congr rfl fun i _ => setI_eq i).trans (Rect.biUnion_part hdivI)]
  · rw [setI_eq, setI_eq]; exact Rect.part_disjoint hdivI h
omit [FloatOps F] in
theorem nPts_rows (f : S32x16.Idx → BitVec 32) : (nPts (F := F) d f) = bigSep Finset.univ fun w : Fin 32 => nRowPts (F := F) d w f := by
  refine Eq.trans ?_ (pointsTo_biUnion Finset.univ (ℓ := nLoc d) setN fun i _ j _ h => ?_)
  · rw [(Finset.biUnion_congr rfl fun i _ => setN_eq i).trans (Rect.biUnion_part hdivN)]
  · rw [setN_eq, setN_eq]; exact Rect.part_disjoint hdivN h

omit [FloatOps F] in
/-- A sum over the rows is one over the SparseCores of the call and, on each, over its tiles. -/
theorem rows_cores (Φ : Fin 32 → sProp 𝕄) :
    bigSep Finset.univ Φ = bigSep Finset.univ fun c : Fin ((K (F := F)).nCore 0) => bigSep Finset.univ fun i : Fin 16 => Φ (wid (Fin.cast nCore_zero c) i) := by
  rw [show (bigSep Finset.univ Φ : sProp 𝕄) = bigSep Finset.univ fun p : Fin 2 × Fin 16 => Φ (widE p) from (bigSep_univ_equiv widE Φ), bigSep_univ_prod]
  exact (bigSep_univ_equiv (finCongr nCore_zero) fun c : Fin 2 => bigSep Finset.univ fun i : Fin 16 => Φ (wid c i))

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
theorem rows_sep (fi : S32x1x128.Idx → BitVec 32) (fn : S32x16.Idx → BitVec 32) :
    (iprop((bigSep Finset.univ fun w : Fin 32 => xRowPts (F := F) M d w) ∗ (bigSep Finset.univ fun w : Fin 32 => iRowPts (F := F) d w fi)
        ∗ bigSep Finset.univ fun w : Fin 32 => nRowPts (F := F) d w fn) : sProp 𝕄)
      = bigSep Finset.univ fun w : Fin 32 => iprop(xRowPts (F := F) M d w ∗ iRowPts (F := F) d w fi ∗ nRowPts (F := F) d w fn) := by
  refine ((bigSep_sep Finset.univ (fun w : Fin 32 => xRowPts (F := F) M d w) (fun w => iprop(iRowPts (F := F) d w fi ∗ nRowPts (F := F) d w fn))).trans ?_).symm
  exact congrArg (fun R : sProp 𝕄 => iprop((bigSep Finset.univ fun w : Fin 32 => xRowPts (F := F) M d w) ∗ R))
    (bigSep_sep Finset.univ (fun w : Fin 32 => iRowPts (F := F) d w fi) (fun w => nRowPts (F := F) d w fn))

/-- What the call is handed, from the three arrays whole. -/
theorem call_pre (fi : S32x1x128.Idx → BitVec 32) (fn : S32x16.Idx → BitVec 32) :
    iprop(xPts (F := F) M d ∗ iPts d fi ∗ nPts d fn) ⊢ bigSep Finset.univ fun c : Fin ((K (F := F)).nCore 0) => (P M).st 0 d c := by
  show _ ⊢ bigSep Finset.univ fun c : Fin ((K (F := F)).nCore 0) => bigSep Finset.univ fun i : Fin 16 => goRow M d (wid (Fin.cast nCore_zero c) i)
  rw [← rows_cores (F := F) (goRow M d), xPts_rows, iPts_rows, nPts_rows, rows_sep (F := F) M d fi fn]
  refine bigSep_mono fun w _ => ?_
  show iprop(xRowPts (F := F) M d w ∗ iRowPts (F := F) d w fi ∗ nRowPts (F := F) d w fn) ⊢ goRow M d w
  iintro ⟨Hx, Hi, Hn⟩
  isplitl [Hx]; · iexact Hx
  isplitl [Hi]; · iexists fi; iexact Hi
  iexists fn; iexact Hn

/-- What the call brings back: the mask unchanged, the two results whole at the compaction. -/
theorem call_post :
    (bigSep Finset.univ fun c : Fin ((K (F := F)).nCore 0) => (P M).dn 0 d c) ⊢ iprop(xPts (F := F) M d ∗ iPts d (idxV (M d)) ∗ nPts d (cntV (M d))) := by
  show (bigSep Finset.univ fun c : Fin ((K (F := F)).nCore 0) => bigSep Finset.univ fun i : Fin 16 => tdRow M d (wid (Fin.cast nCore_zero c) i)) ⊢ _
  rw [← rows_cores (F := F) (tdRow M d), xPts_rows, iPts_rows, nPts_rows, rows_sep (F := F) M d (idxV (M d)) (cntV (M d))]

theorem vecSplit : (K (F := F)).VecSplit' (P M) 0 := by
  intro d c
  show (bigSep Finset.univ fun i : Fin 16 => goRow M d (wid (Fin.cast nCore_zero c) i))
    ⊢ |={Set.univ}=> iprop((bigSep Finset.univ fun i : Fin ((K (F := F)).nSub 0) => goRow M d (wid (Fin.cast nCore_zero c) (Fin.cast nSub_zero i)))
        ∗ ((bigSep Finset.univ fun i : Fin ((K (F := F)).nSub 0) => tdRow M d (wid (Fin.cast nCore_zero c) (Fin.cast nSub_zero i)))
          -∗ bigSep Finset.univ fun i : Fin 16 => tdRow M d (wid (Fin.cast nCore_zero c) i)))
  rw [bigSep_tasks (F := F) fun i => goRow M d (wid (Fin.cast nCore_zero c) i), bigSep_tasks (F := F) fun i => tdRow M d (wid (Fin.cast nCore_zero c) i)]
  iintro H
  imodintro
  isplitl [H]; · iexact H
  iintro H
  iexact H

end Cert.Proof

end
-- ==== Proof.Sparse.lean ====
/-
  The first TensorCore kernel (the rewriting of the listed rows): its body's run at symbolic staging buffers, the proof data of
  its pipeline from any contents of the arrays, and its region over the thread state "every unscoped buffer at a valuation".
-/
module

public import proofs.«01_k».proof.Proof.Setup
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.Value
public import Idealize.ShloMosaic.Lib.Pipeline.FrameBody
public import Idealize.ShloMosaic.Lib.Pipeline.RegionsLoop
public import Idealize.ShloMosaic.Lib.Pipeline.ValueKit.Basic
public import Idealize.ShloMosaic.Lib.Pointwise.Index
public import Idealize.ShloMosaic.Lib.Tactic

@[expose] public section

noncomputable section

namespace Cert.Proof

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig (HIx 1) (Elt F) ℕ UU ℕ

/-- A load of everything reads everything. -/
theorem readAt_all {κ : Kind} {sp : Space} {s : Shape} {e : EltTy} (v : View sig κ sp s e) {off : Fin s.rank → Nat} (h : off = fun _ => 0)
    (inb : ∀ a, off a + s.size a ≤ s.size a) (f : v.ty.Contents (Elt F)) :
    View.readAt (Elt F) v (Rect.unit off s.size inb).toLoadRect f = v.read (Elt F) f :=
  View.ld_unit_zero h inb (v.read (Elt F) f)

/-- A store of everything, read back. -/
theorem read_writes_all {κ : Kind} {sp : Space} {s : Shape} {e : EltTy} (v : View sig κ sp s e) {off : Fin s.rank → Nat} (h : off = fun _ => 0)
    (inb : ∀ a, off a + s.size a ≤ s.size a) (f : v.ty.Contents (Elt F)) (w : s.Idx → Elt F e) :
    v.read (Elt F) (v.writes (Elt F) f [⟨Rect.unit off s.size inb, w⟩]) = w := by
  subst h
  funext x
  have h := View.read_writes_cons_emb v f (Rect.unit (fun _ => 0) s.size inb) w [] x
  have e : (Rect.unit (s := s) (fun _ => 0) s.size inb).emb x = x := by
    funext a
    apply Fin.ext
    show 0 + 1 * (x a).val = _
    omega
  rw [e] at h
  exact h

theorem zero2 : (![0, 0] : Fin 2 → Nat) = fun _ => 0 := funext fun a => by fin_cases a <;> rfl
theorem zero3 : (![0, 0, 0] : Fin 3 → Nat) = fun _ => 0 := funext fun a => by fin_cases a <;> rfl

/-! ## The body -/

/-- The count the body at point `i` reads. -/
def countAt (i : grid1.Coords) (X1 : S32x16.Idx → Elt F .i32) : Elt F .i32 :=
  X1 (Shape.pair (d := ![32, 16]) (i 0) (0 : Fin 16))

/-- What the body stores: of the block `X2` of the rows, the rows listed in `X3` (the first `n` of the list) rewritten. -/
def sparseBlk (n : Elt F .i32) (X2 : S1024x768.Idx → Elt F .f32) (X3 : S1x1x128.Idx → Elt F .i32)
    (X4 : S768x768.Idx → Elt F .bf16) (X5 X6 X7 : S1x768.Idx → Elt F .f32) : S1024x768.Idx → Elt F .f32 :=
  k1_pay1 (k1_pay3 n X3 X2) (k1_pay4 (F := F) n X3) (k1_pay5 n X3 X2 X4 X5) (k1_pay6 X6) X7 X2

/-- The body's run: the inputs' staging buffers unchanged, the output's at `sparseBlk` of them. -/
theorem sparse_run (c : Dev nD) (i : grid1.Coords) (M1 : Memref sig .tc .smem S32x16 .i32) (h1 : M1.IsWhole) (M2 : Memref sig .tc .vmem S1024x768 .f32) (h2 : M2.IsWhole)
    (M3 : Memref sig .tc .vmem S1x1x128 .i32) (h3 : M3.IsWhole) (M4 : Memref sig .tc .vmem S768x768 .bf16) (h4 : M4.IsWhole) (M5 : Memref sig .tc .vmem S1x768 .f32) (h5 : M5.IsWhole)
    (M6 : Memref sig .tc .vmem S1x768 .f32) (h6 : M6.IsWhole) (M7 : Memref sig .tc .vmem S1x768 .f32) (h7 : M7.IsWhole) (M8 : Memref sig .tc .vmem S1024x768 .f32) (h8 : M8.IsWhole)
    (X1 : S32x16.Idx → Elt F .i32) (X2 : S1024x768.Idx → Elt F .f32) (X3 : S1x1x128.Idx → Elt F .i32)
    (X4 : S768x768.Idx → Elt F .bf16) (X5 X6 X7 : S1x768.Idx → Elt F .f32) (Q : PUnit → sProp 𝕄) :
    iprop(owns (c : Thread nD τ) M1 fullShare X1 ∗ owns (c : Thread nD τ) M2 fullShare X2 ∗ owns (c : Thread nD τ) M3 fullShare X3 ∗ owns (c : Thread nD τ) M4 fullShare X4
        ∗ owns (c : Thread nD τ) M5 fullShare X5 ∗ owns (c : Thread nD τ) M6 fullShare X6 ∗ owns (c : Thread nD τ) M7 fullShare X7 ∗ (∃ d, owns (c : Thread nD τ) M8 fullShare d)
        ∗ (iprop(owns (c : Thread nD τ) M1 fullShare X1 ∗ owns (c : Thread nD τ) M2 fullShare X2 ∗ owns (c : Thread nD τ) M3 fullShare X3 ∗ owns (c : Thread nD τ) M4 fullShare X4
            ∗ owns (c : Thread nD τ) M5 fullShare X5 ∗ owns (c : Thread nD τ) M6 fullShare X6 ∗ owns (c : Thread nD τ) M7 fullShare X7
            ∗ owns (c : Thread nD τ) M8 fullShare (sparseBlk (countAt i X1) X2 X3 X4 X5 X6 X7)) -∗ Q ⟨⟩))
      ⊢ wp frame (wpE (defs₀ (F := F)) 𝒱₀ (c : Thread nD τ) none) Set.univ (cc1__sparse_body i M1 h1 M2 h2 M3 h3 M4 h4 M5 h5 M6 h6 M7 h7 M8 h8) Q := by
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, Hk⟩
  sl_unfold [cc1__sparse_body, k1_part1]
  sl_exec
  sl_step
  iapply Hk
  isplitl [H1]; · iexists f1; isplitr; swap; (· iexact H1); ipureintro; exact e1
  isplitl [H2]; · iexists f2; isplitr; swap; (· iexact H2); ipureintro; exact e2
  isplitl [H3]; · iexists f3; isplitr; swap; (· iexact H3); ipureintro; exact e3
  isplitl [H4]; · iexists f4; isplitr; swap; (· iexact H4); ipureintro; exact e4
  isplitl [H5]; · iexists f5; isplitr; swap; (· iexact H5); ipureintro; exact e5
  isplitl [H6]; · iexists f6; isplitr; swap; (· iexact H6); ipureintro; exact e6
  isplitl [H7]; · iexists f7; isplitr; swap; (· iexact H7); ipureintro; exact e7
  iexists _; isplitr; swap; (· iexact H8); ipureintro
  refine (read_writes_all M8.view zero2 _ f8 _).trans ?_
  unfold sparseBlk sparse_run.sl.r_1 sparse_run.sl.r_2 sparse_run.sl.r_3 sparse_run.sl.r_4
  try unfold sparse_run.sl.r
  rw [readAt_all M7.view zero2, readAt_all M2.view zero2, readAt_all M3.view zero3, readAt_all M4.view zero2, readAt_all M5.view zero2, readAt_all M6.view zero2, e2, e3, e4, e5, e6, e7]
  have hc : ∀ inb, View.readAt (Elt F) M1.view (Rect.unit (s := S32x16) (k1_off1 i) S1x1.size inb).toLoadRect f1 (Shape.Idx.first (by exact Nat.one_pos)) = countAt (F := F) i X1 := fun inb => by
    rw [← e1, View.readAt_apply]
    refine congrArg (View.read (Elt F) M1.view f1) (funext fun a => Fin.ext ?_)
    fin_cases a
    · show k1_off1 i 0 + 1 * 0 = (i 0).val
      rw [k1_off1_eq]; rfl
    · show k1_off1 i 1 + 1 * 0 = 0
      rw [k1_off1_eq]; rfl
  rw [hc]

/-! ## The proof data, at an entry valuation -/

variable (V : (c : Dev nD) → (b : Ref sig .tc) → Buf (Elt F) ((c : Thread nD τ).loc b))

/-- Window `w`'s block at point `t`, of the array at the entry valuation. -/
abbrev iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the body stores at point `t`. -/
def oblk1 (c : Dev nD) (t : Fin cfg1.N) : S1024x768.Idx → Elt F .f32 :=
  sparseBlk (countAt (F := F) (grid1.coords t) (iblk1 V c 0 t)) (iblk1 V c 1 t) (iblk1 V c 2 t) (iblk1 V c 3 t) (iblk1 V c 4 t) (iblk1 V c 5 t) (iblk1 V c 6 t)

abbrev Φ1 (c : Dev nD) : sProp 𝕄 := Pipeline.scopedRest (Ix := HIx 1) (Name := ℕ) (U := UU) (Lvl := ℕ) (Val := Elt F) spec1 c

/-- The waits a core may have recorded by now: those at a level of the vector-subcore calls made so far. -/
abbrev seen (c : Dev nD) : Set (SemLoc sig × HIx 1) := {p | (K (F := F)).lev (T c, p.1) p.2 ≤ 8}

/-- The first pipeline's proof data, from any contents of the arrays. -/
def dat1 (c : Dev nD) : Dat τ (Elt F) (HIx 1) ℕ UU ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => oblk1 V c t
  Φ _ := Φ1 c
  q _ := fullShare
  owed _ := 0
  recorded _ := seen (F := F) c

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d
theorem before1_3 (c : Dev nD) (t : Fin cfg1.N) (d) : (dat1 V c).before 3 t d = iblk1 V c 3 t :=
  (dat1 V c).before_in_eq_fetched 3 rfl (fun _ => rfl) (fun _ _ _ => rfl) (fun _ => rfl) t d
theorem before1_4 (c : Dev nD) (t : Fin cfg1.N) (d) : (dat1 V c).before 4 t d = iblk1 V c 4 t :=
  (dat1 V c).before_in_eq_fetched 4 rfl (fun _ => rfl) (fun _ _ _ => rfl) (fun _ => rfl) t d
theorem before1_5 (c : Dev nD) (t : Fin cfg1.N) (d) : (dat1 V c).before 5 t d = iblk1 V c 5 t :=
  (dat1 V c).before_in_eq_fetched 5 rfl (fun _ => rfl) (fun _ _ _ => rfl) (fun _ => rfl) t d
theorem before1_6 (c : Dev nD) (t : Fin cfg1.N) (d) : (dat1 V c).before 6 t d = iblk1 V c 6 t :=
  (dat1 V c).before_in_eq_fetched 6 rfl (fun _ => rfl) (fun _ _ _ => rfl) (fun _ => rfl) t d

/-- The library's body obligation: the staging buffers taken apart, `sparse_run` applied, its post reassembled. -/
theorem body1 (c : Dev nD) : BodyObligation (dat1 V c) (defs₀ (F := F)) 𝒱₀ (none : HIx 1) Set.univ := fun t => by
  rw [bigSep_W1, bigSep_W1]
  rw [show (dat1 V c).Φ t.castSucc = Φ1 c from rfl, show (dat1 V c).Φ t.succ = Φ1 c from rfl,
    show (dat1 V c).owesAt none t.succ = (dat1 V c).owesAt none t.castSucc from rfl]
  simp only [before1_0, before1_1, before1_2, before1_3, before1_4, before1_5, before1_6]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩⟩
  iapply (sparse_run c (grid1.coords t) _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-! ## The region over the thread state -/

/-- Proof data for a pipeline not being run: anything. -/
def junkDat {cfg : Cfg sig Λ₀} (c : Dev nD) : Dat τ (Elt F) (HIx 1) ℕ UU ℕ cfg c where
  A _ := fun _ => Classical.arbitrary _
  after _ _ := fun _ => Classical.arbitrary _
  Φ _ := BI.emp
  q _ := fullShare
  owed _ := 0

/-- The two pipelines' admissibility. -/
abbrev adm : (p : Fin 2) → (pcfgs (F := F) p).Adm := fun p => (cfgs p).toPCfg_adm

def pdats1 : (p : Fin 2) → (c : Dev nD) → Dat τ (Elt F) (HIx 1) ℕ UU ℕ (Pipeline.pin (pcfgs (F := F)) adm p) c
  | ⟨0, _⟩ => fun c => dat1 V c
  | ⟨1, _⟩ => fun c => junkDat c

/-- The result's array after the region, as the library computes it. -/
def out1 (c : Dev nD) : Buf (Elt F) ((c : Thread nD τ).loc main_case0b0_v16) := (dat1 V c).arrAt 7 cfg1.N

/-- What a core owes between regions: nothing, its recorded waits those of the calls made. -/
abbrev idle (c : Dev nD) : sProp 𝕄 := iprop(∃ W : Finset (SemLoc sig × HIx 1), ⌜(↑W : Set (SemLoc sig × HIx 1)) ⊆ seen (F := F) c⌝ ∗ owes (c : Thread nD τ) (0 : CellTallies nD τ sig (HIx 1)) W)

variable (Vp : (c : Dev nD) → (b : Ref sig .tc) → Buf (Elt F) ((c : Thread nD τ).loc b))

set_option backward.isDefEq.respectTransparency.types false in
/-- The first pipeline as a region: entered with every unscoped buffer at `V`, left with them at `Vp`, which has the result's array
    at `out1 V` and agrees with `V` elsewhere. -/
def reg1 (R : Dev nD → sProp 𝕄) (hVp_out : ∀ c, Vp c main_case0b0_v16 = out1 V c)
    (hVp_ne : ∀ c (b : Ref sig .tc), b ≠ main_case0b0_v16 → Vp c b = V c b) :
    Pipeline.RegionSeg (pcfgs (F := F)) adm (pdats1 V) (none : HIx 1) defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody c := (body1 V c).loose
  hwaits := Pipeline.hwaits_of_owed_zero _ _ _ _ (K (F := F)).L (K (F := F)).lev 0 fun _ _ => rfl
  pre c := iprop(unscopedBufs c (V c) ∗ R c ∗ idle c)
  post c := iprop(unscopedBufs c (Vp c) ∗ R c ∗ idle c)
  X _ := BI.emp
  Y _ := BI.emp
  Z c := iprop(Pipeline.unscopedRest (Ix := HIx 1) (Name := ℕ) (U := UU) (Lvl := ℕ) spec1 c (V c) ∗ R c)
  hentry c := by
    rw [Pipeline.ownSems0_none]
    have hsplit := Pipeline.arrays_of_unscopedBufs (p := 0) (pcfgs (F := F)) adm (pdats1 V) (launch1).win (launch1).arr_whole c
      ((pdats1 V 0 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun _ h => Or.inl (hW h)
      iexact HO
    isplitr; · iempintro
    isplitl [Hrest] <;> iassumption
  hin c := by
    rw [show (pdats1 V 0 c).Φ 0 = Φ1 c from rfl]
    iintro ⟨-, -, Hr⟩; iexact Hr
  hout c := by
    rw [Pipeline.ownSems0_none, show (pdats1 V 0 c).Φ (Fin.last _) = Φ1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) (launch1).win (launch1).arr_whole c
      (pdats1 V) ((pdats1 V 0 c).share_full fun _ => rfl) (V c) (Vp c) ((pdats1 V 0 c).arrAt · cfg1.N)
      (fun w => by
        fin_cases w
        · exact ((pdats1 V 0 c).arrAt_in 0 rfl _).trans (hVp_ne c main_v7_1 (by decide)).symm
        · exact ((pdats1 V 0 c).arrAt_in 1 rfl _).trans (hVp_ne c main_v0 (by decide)).symm
        · exact ((pdats1 V 0 c).arrAt_in 2 rfl _).trans (hVp_ne c main_v7_0 (by decide)).symm
        · exact ((pdats1 V 0 c).arrAt_in 3 rfl _).trans (hVp_ne c main_v3 (by decide)).symm
        · exact ((pdats1 V 0 c).arrAt_in 4 rfl _).trans (hVp_ne c main_v4 (by decide)).symm
        · exact ((pdats1 V 0 c).arrAt_in 5 rfl _).trans (hVp_ne c main_v5 (by decide)).symm
        · exact ((pdats1 V 0 c).arrAt_in 6 rfl _).trans (hVp_ne c main_v6 (by decide)).symm
        · exact (hVp_out c).symm)
      (fun b hb => hVp_ne c b fun h => hb (h ▸ Finset.mem_image.mpr ⟨7, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, %hW, HO⟩; iexists W; isplitr; swap; (· iexact HO)
    ipureintro
    intro p hp
    rcases hW hp with h | h
    · exact h
    · obtain ⟨w, s, rfl⟩ := h
      exact Nat.zero_le 8

/-! ## The result's array, from the arrays at entry -/

theorem coords1 (t : Fin cfg1.N) : (grid1.coords t 0).val = t.val := by
  revert t; decide

theorem index1_1 (t : Fin cfg1.N) : (cfg1.win 1).index t 0 = t.val ∧ (cfg1.win 1).index t 1 = 0 := by revert t; decide
theorem index1_2 (t : Fin cfg1.N) : (cfg1.win 2).index t 0 = t.val ∧ (cfg1.win 2).index t 1 = 0 ∧ (cfg1.win 2).index t 2 = 0 := by revert t; decide
theorem index1_7 (t : Fin cfg1.N) : (cfg1.win 7).index t 0 = t.val ∧ (cfg1.win 7).index t 1 = 0 := by revert t; decide

theorem index1_0 (t : Fin cfg1.N) : ∀ a, (cfg1.win 0).index t a = 0 := by revert t; decide
theorem index1_3 (t : Fin cfg1.N) : ∀ a, (cfg1.win 3).index t a = 0 := by revert t; decide
theorem index1_4 (t : Fin cfg1.N) : ∀ a, (cfg1.win 4).index t a = 0 := by revert t; decide
theorem index1_5 (t : Fin cfg1.N) : ∀ a, (cfg1.win 5).index t a = 0 := by revert t; decide
theorem index1_6 (t : Fin cfg1.N) : ∀ a, (cfg1.win 6).index t a = 0 := by revert t; decide

/-- The block a row is in. -/
def blkOf (y : S32768x768.Idx) : Fin 32 := ⟨(y 0).val / 1024, by have := (y 0).isLt; have : S32768x768.size 0 = 32768 := rfl; omega⟩

/-- Block `t` of the rows, and row `t` of the positions. -/
def rowsAt (x : S32768x768.Idx → Elt F .f32) (t : Fin 32) : S1024x768.Idx → Elt F .f32 := fun j =>
  x (ix2 (n0 := 32768) (n1 := 768) ⟨1024 * t.val + (j 0).val, by have := (j 0).isLt; have : S1024x768.size 0 = 1024 := rfl; omega⟩ (j 1))
def posAt (p : S32x1x128.Idx → Elt F .i32) (t : Fin 32) : S1x1x128.Idx → Elt F .i32 := fun j => p (ix3 (n0 := 32) (n1 := 1) (n2 := 128) t 0 (j 2))

/-- The first pipeline's result: each block of the rows with its listed rows rewritten. -/
def sparseOut (n : S32x16.Idx → Elt F .i32) (x : S32768x768.Idx → Elt F .f32) (p : S32x1x128.Idx → Elt F .i32) (w : S768x768.Idx → Elt F .bf16)
    (b g be : S1x768.Idx → Elt F .f32) : S32768x768.Idx → Elt F .f32 := fun y =>
  sparseBlk (n (Shape.pair (d := ![32, 16]) (blkOf y) (0 : Fin 16)))
    (rowsAt x (blkOf y))
    (posAt p (blkOf y)) w b g be
    (ix2 (n0 := 1024) (n1 := 768) ⟨(y 0).val % 1024, Nat.mod_lt _ (by decide)⟩ (y 1))

/-- The counts are read whole, -/
theorem iblk1_0 (c : Dev nD) (t : Fin cfg1.N) : iblk1 V c 0 t = V c main_v7_1 := by
  funext y
  exact congrArg (V c main_v7_1) (funext fun a => Fin.ext (Window.rect_emb_val_of_index_zero (cfg1.win 0) t a (index1_0 t a) y))
/-- as are the weights, -/
theorem iblk1_3 (c : Dev nD) (t : Fin cfg1.N) : iblk1 V c 3 t = V c main_v3 := by
  funext y
  exact congrArg (V c main_v3) (funext fun a => Fin.ext (Window.rect_emb_val_of_index_zero (cfg1.win 3) t a (index1_3 t a) y))
/-- the bias, -/
theorem iblk1_4 (c : Dev nD) (t : Fin cfg1.N) : iblk1 V c 4 t = V c main_v4 := by
  funext y
  exact congrArg (V c main_v4) (funext fun a => Fin.ext (Window.rect_emb_val_of_index_zero (cfg1.win 4) t a (index1_4 t a) y))
/-- the scale -/
theorem iblk1_5 (c : Dev nD) (t : Fin cfg1.N) : iblk1 V c 5 t = V c main_v5 := by
  funext y
  exact congrArg (V c main_v5) (funext fun a => Fin.ext (Window.rect_emb_val_of_index_zero (cfg1.win 5) t a (index1_5 t a) y))
/-- and the shift. -/
theorem iblk1_6 (c : Dev nD) (t : Fin cfg1.N) : iblk1 V c 6 t = V c main_v6 := by
  funext y
  exact congrArg (V c main_v6) (funext fun a => Fin.ext (Window.rect_emb_val_of_index_zero (cfg1.win 6) t a (index1_6 t a) y))
/-- The block of the rows a grid point reads, -/
theorem iblk1_1 (c : Dev nD) (t : Fin cfg1.N) : iblk1 V c 1 t = rowsAt (V c main_v0) t := by
  funext y
  refine congrArg (V c main_v0) (funext fun a => Fin.ext ?_)
  refine (Window.rect_emb_val (cfg1.win 1) t y a).trans ?_
  fin_cases a
  · show (cfg1.win 1).index t 0 * 1024 + (y 0).val = 1024 * t.val + (y 0).val
    rw [(index1_1 t).1]; omega
  · show (cfg1.win 1).index t 1 * 768 + (y 1).val = (y 1).val
    rw [(index1_1 t).2]; omega
/-- and its row of the positions. -/
theorem iblk1_2 (c : Dev nD) (t : Fin cfg1.N) : iblk1 V c 2 t = posAt (V c main_v7_0) t := by
  funext y
  refine congrArg (V c main_v7_0) (funext fun a => Fin.ext ?_)
  refine (Window.rect_emb_val (cfg1.win 2) t y a).trans ?_
  fin_cases a
  · show (cfg1.win 2).index t 0 * 1 + (y 0).val = t.val
    have h : (y 0).val < 1 := (y 0).isLt
    rw [(index1_2 t).1]; omega
  · show (cfg1.win 2).index t 1 * 1 + (y 1).val = 0
    have h : (y 1).val < 1 := (y 1).isLt
    rw [(index1_2 t).2.1]; omega
  · show (cfg1.win 2).index t 2 * 128 + (y 2).val = (y 2).val
    rw [(index1_2 t).2.2]; omega

/-- The block a grid point writes, from the arrays. -/
theorem oblk1_eq (c : Dev nD) (t : Fin cfg1.N) : oblk1 V c t = sparseBlk ((V c main_v7_1 : S32x16.Idx → Elt F .i32) (Shape.pair (d := ![32, 16]) t (0 : Fin 16)))
    (rowsAt (V c main_v0) t) (posAt (V c main_v7_0) t) (V c main_v3) (V c main_v4) (V c main_v5) (V c main_v6) := by
  unfold oblk1 countAt
  rw [iblk1_0, iblk1_1, iblk1_2, iblk1_3, iblk1_4, iblk1_5, iblk1_6]
  have h : grid1.coords t 0 = t := Fin.ext (coords1 t)
  rw [h]

/-- The first pipeline's result, from the arrays. -/
theorem out1_eq (c : Dev nD) : out1 V c = sparseOut (V c main_v7_1) (V c main_v0) (V c main_v7_0) (V c main_v3) (V c main_v4) (V c main_v5) (V c main_v6) := by
  refine (dat1 V c).arrAt_eq_of_cover 7 _ (fun t _ => ?_) (fun y => ?_)
  · show oblk1 V c t = _
    rw [oblk1_eq]
    funext y
    have h0 : (((cfg1.win 7).rect t).emb y 0).val = t.val * 1024 + (y 0).val := by
      rw [Window.rect_emb_val (cfg1.win 7) t y 0, (index1_7 t).1]; rfl
    have h1 : (((cfg1.win 7).rect t).emb y 1).val = (y 1).val := by
      rw [Window.rect_emb_val (cfg1.win 7) t y 1, (index1_7 t).2]; exact Nat.zero_add _
    have hy : (y 0).val < 1024 := (y 0).isLt
    show _ = sparseOut (F := F) _ _ _ _ _ _ _ (((cfg1.win 7).rect t).emb y)
    unfold sparseOut
    have ht : blkOf (((cfg1.win 7).rect t).emb y) = t := Fin.ext (by show (((cfg1.win 7).rect t).emb y 0).val / 1024 = _; rw [h0]; omega)
    rw [ht]
    congr 1
    funext a
    apply Fin.ext
    fin_cases a
    · show (y 0).val = (((cfg1.win 7).rect t).emb y 0).val % 1024
      rw [h0]; omega
    · exact h1.symm
  · have hd : ∃ t : Fin cfg1.N, t.val = (y 0).val / 1024 := ⟨blkOf y, rfl⟩
    obtain ⟨t, ht⟩ := hd
    refine ⟨t, flush1_7 _, ?_⟩
    show y ∈ ((cfg1.win 7).arr.view.slice ((cfg1.win 7).rect t)).set
    rw [View.set_slice_whole]
    refine ((cfg1.win 7).mem_rect_iff t y).mpr ?_
    intro a
    have h0 : (y 0).val < 32768 := (y 0).isLt
    have h1 : (y 1).val < 768 := (y 1).isLt
    fin_cases a
    · show (cfg1.win 7).index t 0 * 1024 ≤ (y 0).val ∧ (y 0).val < (cfg1.win 7).index t 0 * 1024 + 1024
      rw [(index1_7 t).1]; omega
    · show (cfg1.win 7).index t 1 * 768 ≤ (y 1).val ∧ (y 1).val < (cfg1.win 7).index t 1 * 768 + 768
      rw [(index1_7 t).2]; omega

end Cert.Proof

end
-- ==== Proof.Dense.lean ====
/-
  The second TensorCore kernel (every row rewritten where the mask selects it): its body's run at symbolic staging buffers, the
  proof data of its pipeline from any contents of the arrays, its region, and the result's array as a function of the arrays.
-/
module

public import proofs.«01_k».proof.Proof.Sparse
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.Value
public import Idealize.ShloMosaic.Lib.Pipeline.FrameBody
public import Idealize.ShloMosaic.Lib.Pipeline.RegionsLoop
public import Idealize.ShloMosaic.Lib.Pipeline.ValueKit.Basic
public import Idealize.ShloMosaic.Lib.Pointwise.Index
public import Idealize.ShloMosaic.Lib.Tactic

@[expose] public section

noncomputable section

namespace Cert.Proof

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig (HIx 1) (Elt F) ℕ UU ℕ

/-! ## The body -/

/-- What the body stores: of the block `X1` of the rows, those the mask's words `X2` select rewritten. -/
def denseBlk (X1 : S1024x768.Idx → Elt F .f32) (X2 : S1024x1.Idx → Elt F .i32) (X3 : S768x768.Idx → Elt F .bf16) (X4 X5 X6 : S1x768.Idx → Elt F .f32) : S1024x768.Idx → Elt F .f32 :=
  k2_pay1 (k2_pay2 X1) (k2_pay3 X1 X3 X4 X5 X6) (k2_pay4 (F := F) X2)

/-- The body's run: the inputs' staging buffers unchanged, the output's at `denseBlk` of them. -/
theorem dense_run (c : Dev nD) (i : grid2.Coords) (M1 : Memref sig .tc .vmem S1024x768 .f32) (h1 : M1.IsWhole) (M2 : Memref sig .tc .vmem S1024x1 .i32) (h2 : M2.IsWhole)
    (M3 : Memref sig .tc .vmem S768x768 .bf16) (h3 : M3.IsWhole) (M4 : Memref sig .tc .vmem S1x768 .f32) (h4 : M4.IsWhole)
    (M5 : Memref sig .tc .vmem S1x768 .f32) (h5 : M5.IsWhole) (M6 : Memref sig .tc .vmem S1x768 .f32) (h6 : M6.IsWhole) (M7 : Memref sig .tc .vmem S1024x768 .f32) (h7 : M7.IsWhole)
    (X1 : S1024x768.Idx → Elt F .f32) (X2 : S1024x1.Idx → Elt F .i32) (X3 : S768x768.Idx → Elt F .bf16) (X4 X5 X6 : S1x768.Idx → Elt F .f32) (Q : PUnit → sProp 𝕄) :
    iprop(owns (c : Thread nD τ) M1 fullShare X1 ∗ owns (c : Thread nD τ) M2 fullShare X2 ∗ owns (c : Thread nD τ) M3 fullShare X3 ∗ owns (c : Thread nD τ) M4 fullShare X4
        ∗ owns (c : Thread nD τ) M5 fullShare X5 ∗ owns (c : Thread nD τ) M6 fullShare X6 ∗ (∃ d, owns (c : Thread nD τ) M7 fullShare d)
        ∗ (iprop(owns (c : Thread nD τ) M1 fullShare X1 ∗ owns (c : Thread nD τ) M2 fullShare X2 ∗ owns (c : Thread nD τ) M3 fullShare X3 ∗ owns (c : Thread nD τ) M4 fullShare X4
            ∗ owns (c : Thread nD τ) M5 fullShare X5 ∗ owns (c : Thread nD τ) M6 fullShare X6
            ∗ owns (c : Thread nD τ) M7 fullShare (denseBlk X1 X2 X3 X4 X5 X6)) -∗ Q ⟨⟩))
      ⊢ wp frame (wpE (defs₀ (F := F)) 𝒱₀ (c : Thread nD τ) none) Set.univ (cc2__dense_body i M1 h1 M2 h2 M3 h3 M4 h4 M5 h5 M6 h6 M7 h7) Q := by
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%d7, %f7, -, H7⟩, Hk⟩
  sl_unfold [cc2__dense_body, k2_part1]
  sl_exec
  sl_step
  iapply Hk
  isplitl [H1]; · iexists f1; isplitr; swap; (· iexact H1); ipureintro; exact e1
  isplitl [H2]; · iexists f2; isplitr; swap; (· iexact H2); ipureintro; exact e2
  isplitl [H3]; · iexists f3; isplitr; swap; (· iexact H3); ipureintro; exact e3
  isplitl [H4]; · iexists f4; isplitr; swap; (· iexact H4); ipureintro; exact e4
  isplitl [H5]; · iexists f5; isplitr; swap; (· iexact H5); ipureintro; exact e5
  isplitl [H6]; · iexists f6; isplitr; swap; (· iexact H6); ipureintro; exact e6
  iexists _; isplitr; swap; (· iexact H7); ipureintro
  refine (read_writes_all M7.view zero2 _ f7 _).trans ?_
  unfold denseBlk dense_run.sl.r dense_run.sl.r_1 dense_run.sl.r_2
  rw [readAt_all M1.view zero2, readAt_all M2.view zero2, readAt_all M3.view zero2, readAt_all M4.view zero2, readAt_all M5.view zero2, readAt_all M6.view zero2, e1, e2, e3, e4, e5, e6]

/-! ## The proof data, at an entry valuation -/

variable (V : (c : Dev nD) → (b : Ref sig .tc) → Buf (Elt F) ((c : Thread nD τ).loc b))

/-- Window `w`'s block at point `t`, of the array at the entry valuation. -/
abbrev iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the body stores at point `t`. -/
def oblk2 (c : Dev nD) (t : Fin cfg2.N) : S1024x768.Idx → Elt F .f32 :=
  denseBlk (iblk2 V c 0 t) (iblk2 V c 1 t) (iblk2 V c 2 t) (iblk2 V c 3 t) (iblk2 V c 4 t) (iblk2 V c 5 t)

abbrev Φ2 (c : Dev nD) : sProp 𝕄 := Pipeline.scopedRest (Ix := HIx 1) (Name := ℕ) (U := UU) (Lvl := ℕ) (Val := Elt F) spec2 c

/-- The second pipeline's proof data, from any contents of the arrays. -/
def dat2 (c : Dev nD) : Dat τ (Elt F) (HIx 1) ℕ UU ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => oblk2 V c t
  Φ _ := Φ2 c
  q _ := fullShare
  owed _ := 0
  recorded _ := seen (F := F) c

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d
theorem before2_4 (c : Dev nD) (t : Fin cfg2.N) (d) : (dat2 V c).before 4 t d = iblk2 V c 4 t :=
  (dat2 V c).before_in_eq_fetched 4 rfl (fun _ => rfl) (fun _ _ _ => rfl) (fun _ => rfl) t d
theorem before2_5 (c : Dev nD) (t : Fin cfg2.N) (d) : (dat2 V c).before 5 t d = iblk2 V c 5 t :=
  (dat2 V c).before_in_eq_fetched 5 rfl (fun _ => rfl) (fun _ _ _ => rfl) (fun _ => rfl) t d

/-- The library's body obligation: the staging buffers taken apart, `dense_run` applied, its post reassembled. -/
theorem body2 (c : Dev nD) : BodyObligation (dat2 V c) (defs₀ (F := F)) 𝒱₀ (none : HIx 1) Set.univ := fun t => by
  rw [bigSep_W2, bigSep_W2]
  rw [show (dat2 V c).Φ t.castSucc = Φ2 c from rfl, show (dat2 V c).Φ t.succ = Φ2 c from rfl,
    show (dat2 V c).owesAt none t.succ = (dat2 V c).owesAt none t.castSucc from rfl]
  simp only [before2_0, before2_1, before2_2, before2_3, before2_4, before2_5]
  iintro ⟨HΦ, Howes, ⟨%d0, H0⟩, ⟨%d1, H1⟩, ⟨%d2, H2⟩, ⟨%d3, H3⟩, ⟨%d4, H4⟩, ⟨%d5, H5⟩, ⟨%d6, H6⟩⟩
  iapply (dense_run c (grid2.coords t) _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  iexact H6

/-! ## The region over the thread state -/

def pdats2 : (p : Fin 2) → (c : Dev nD) → Dat τ (Elt F) (HIx 1) ℕ UU ℕ (Pipeline.pin (pcfgs (F := F)) adm p) c
  | ⟨0, _⟩ => fun c => junkDat c
  | ⟨1, _⟩ => fun c => dat2 V c

/-- The result's array after the region, as the library computes it. -/
def out2 (c : Dev nD) : Buf (Elt F) ((c : Thread nD τ).loc main_case0b1_v17) := (dat2 V c).arrAt 6 cfg2.N

variable (Vp : (c : Dev nD) → (b : Ref sig .tc) → Buf (Elt F) ((c : Thread nD τ).loc b))

set_option backward.isDefEq.respectTransparency.types false in
/-- The second pipeline as a region: entered with every unscoped buffer at `V`, left with them at `Vp`, which has the result's array
    at `out2 V` and agrees with `V` elsewhere. -/
def reg2 (R : Dev nD → sProp 𝕄) (hVp_out : ∀ c, Vp c main_case0b1_v17 = out2 V c)
    (hVp_ne : ∀ c (b : Ref sig .tc), b ≠ main_case0b1_v17 → Vp c b = V c b) :
    Pipeline.RegionSeg (pcfgs (F := F)) adm (pdats2 V) (none : HIx 1) defs₀ 𝒱₀ (K (F := F)).L (K (F := F)).lev 1 where
  win := (launch2).win.to₀
  block_pos := (launch2).block_pos
  stage_whole := (launch2).stage_whole
  K := PEmpty
  osem k := k.elim
  ho := Pipeline.OwnSemFacts.none _
  hbody c := (body2 V c).loose
  hwaits := Pipeline.hwaits_of_owed_zero _ _ _ _ (K (F := F)).L (K (F := F)).lev 1 fun _ _ => rfl
  pre c := iprop(unscopedBufs c (V c) ∗ R c ∗ idle c)
  post c := iprop(unscopedBufs c (Vp c) ∗ R c ∗ idle c)
  X _ := BI.emp
  Y _ := BI.emp
  Z c := iprop(Pipeline.unscopedRest (Ix := HIx 1) (Name := ℕ) (U := UU) (Lvl := ℕ) spec2 c (V c) ∗ R c)
  hentry c := by
    rw [Pipeline.ownSems0_none]
    have hsplit := Pipeline.arrays_of_unscopedBufs (p := 1) (pcfgs (F := F)) adm (pdats2 V) (launch2).win (launch2).arr_whole c
      ((pdats2 V 1 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun _ h => Or.inl (hW h)
      iexact HO
    isplitr; · iempintro
    isplitl [Hrest] <;> iassumption
  hin c := by
    rw [show (pdats2 V 1 c).Φ 0 = Φ2 c from rfl]
    iintro ⟨-, -, Hr⟩; iexact Hr
  hout c := by
    rw [Pipeline.ownSems0_none, show (pdats2 V 1 c).Φ (Fin.last _) = Φ2 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) (launch2).win (launch2).arr_whole c
      (pdats2 V) ((pdats2 V 1 c).share_full fun _ => rfl) (V c) (Vp c) ((pdats2 V 1 c).arrAt · cfg2.N)
      (fun w => by
        fin_cases w
        · exact ((pdats2 V 1 c).arrAt_in 0 rfl _).trans (hVp_ne c main_v0 (by decide)).symm
        · exact ((pdats2 V 1 c).arrAt_in 1 rfl _).trans (hVp_ne c main_case0b1_v16 (by decide)).symm
        · exact ((pdats2 V 1 c).arrAt_in 2 rfl _).trans (hVp_ne c main_v3 (by decide)).symm
        · exact ((pdats2 V 1 c).arrAt_in 3 rfl _).trans (hVp_ne c main_v4 (by decide)).symm
        · exact ((pdats2 V 1 c).arrAt_in 4 rfl _).trans (hVp_ne c main_v5 (by decide)).symm
        · exact ((pdats2 V 1 c).arrAt_in 5 rfl _).trans (hVp_ne c main_v6 (by decide)).symm
        · exact (hVp_out c).symm)
      (fun b hb => hVp_ne c b fun h => hb (h ▸ Finset.mem_image.mpr ⟨6, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, %hW, HO⟩; iexists W; isplitr; swap; (· iexact HO)
    ipureintro
    intro p hp
    rcases hW hp with h | h
    · exact h
    · obtain ⟨w, s, rfl⟩ := h
      exact Nat.zero_le 8

/-! ## The result's array, from the arrays at entry -/

theorem index2_0 (t : Fin cfg2.N) : (cfg2.win 0).index t 0 = t.val ∧ (cfg2.win 0).index t 1 = 0 := by revert t; decide
theorem index2_1 (t : Fin cfg2.N) : (cfg2.win 1).index t 0 = t.val ∧ (cfg2.win 1).index t 1 = 0 := by revert t; decide
theorem index2_6 (t : Fin cfg2.N) : (cfg2.win 6).index t 0 = t.val ∧ (cfg2.win 6).index t 1 = 0 := by revert t; decide
theorem index2_2 (t : Fin cfg2.N) : ∀ a, (cfg2.win 2).index t a = 0 := by revert t; decide
theorem index2_3 (t : Fin cfg2.N) : ∀ a, (cfg2.win 3).index t a = 0 := by revert t; decide
theorem index2_4 (t : Fin cfg2.N) : ∀ a, (cfg2.win 4).index t a = 0 := by revert t; decide
theorem index2_5 (t : Fin cfg2.N) : ∀ a, (cfg2.win 5).index t a = 0 := by revert t; decide

/-- Block `t` of the mask's words, as a column. -/
def maskAt (m : S32768x1.Idx → Elt F .i32) (t : Fin 32) : S1024x1.Idx → Elt F .i32 := fun j =>
  m (ix2 (n0 := 32768) (n1 := 1) ⟨1024 * t.val + (j 0).val, by have := (j 0).isLt; have : S1024x1.size 0 = 1024 := rfl; omega⟩ (j 1))

/-- The second pipeline's result: each block of the rows with its selected rows rewritten. -/
def denseOut (x : S32768x768.Idx → Elt F .f32) (m : S32768x1.Idx → Elt F .i32) (w : S768x768.Idx → Elt F .bf16)
    (b g be : S1x768.Idx → Elt F .f32) : S32768x768.Idx → Elt F .f32 := fun y =>
  denseBlk (rowsAt x (blkOf y)) (maskAt m (blkOf y)) w b g be
    (ix2 (n0 := 1024) (n1 := 768) ⟨(y 0).val % 1024, Nat.mod_lt _ (by decide)⟩ (y 1))

/-- The weights are read whole, -/
theorem iblk2_2 (c : Dev nD) (t : Fin cfg2.N) : iblk2 V c 2 t = V c main_v3 := by
  funext y
  exact congrArg (V c main_v3) (funext fun a => Fin.ext (Window.rect_emb_val_of_index_zero (cfg2.win 2) t a (index2_2 t a) y))
/-- as are the bias, -/
theorem iblk2_3 (c : Dev nD) (t : Fin cfg2.N) : iblk2 V c 3 t = V c main_v4 := by
  funext y
  exact congrArg (V c main_v4) (funext fun a => Fin.ext (Window.rect_emb_val_of_index_zero (cfg2.win 3) t a (index2_3 t a) y))
/-- the scale -/
theorem iblk2_4 (c : Dev nD) (t : Fin cfg2.N) : iblk2 V c 4 t = V c main_v5 := by
  funext y
  exact congrArg (V c main_v5) (funext fun a => Fin.ext (Window.rect_emb_val_of_index_zero (cfg2.win 4) t a (index2_4 t a) y))
/-- and the shift. -/
theorem iblk2_5 (c : Dev nD) (t : Fin cfg2.N) : iblk2 V c 5 t = V c main_v6 := by
  funext y
  exact congrArg (V c main_v6) (funext fun a => Fin.ext (Window.rect_emb_val_of_index_zero (cfg2.win 5) t a (index2_5 t a) y))
/-- The block of the rows a grid point reads, -/
theorem iblk2_0 (c : Dev nD) (t : Fin cfg2.N) : iblk2 V c 0 t = rowsAt (V c main_v0) t := by
  funext y
  refine congrArg (V c main_v0) (funext fun a => Fin.ext ?_)
  refine (Window.rect_emb_val (cfg2.win 0) t y a).trans ?_
  fin_cases a
  · show (cfg2.win 0).index t 0 * 1024 + (y 0).val = 1024 * t.val + (y 0).val
    rw [(index2_0 t).1]; omega
  · show (cfg2.win 0).index t 1 * 768 + (y 1).val = (y 1).val
    rw [(index2_0 t).2]; omega
/-- and its block of the mask. -/
theorem iblk2_1 (c : Dev nD) (t : Fin cfg2.N) : iblk2 V c 1 t = maskAt (V c main_case0b1_v16) t := by
  funext y
  refine congrArg (V c main_case0b1_v16) (funext fun a => Fin.ext ?_)
  refine (Window.rect_emb_val (cfg2.win 1) t y a).trans ?_
  fin_cases a
  · show (cfg2.win 1).index t 0 * 1024 + (y 0).val = 1024 * t.val + (y 0).val
    rw [(index2_1 t).1]; omega
  · show (cfg2.win 1).index t 1 * 1 + (y 1).val = (y 1).val
    rw [(index2_1 t).2]; omega

/-- The block a grid point writes, from the arrays. -/
theorem oblk2_eq (c : Dev nD) (t : Fin cfg2.N) : oblk2 V c t = denseBlk (rowsAt (V c main_v0) t) (maskAt (V c main_case0b1_v16) t) (V c main_v3) (V c main_v4) (V c main_v5) (V c main_v6) := by
  unfold oblk2
  rw [iblk2_0, iblk2_1, iblk2_2, iblk2_3, iblk2_4, iblk2_5]

/-- The second pipeline's result, from the arrays. -/
theorem out2_eq (c : Dev nD) : out2 V c = denseOut (V c main_v0) (V c main_case0b1_v16) (V c main_v3) (V c main_v4) (V c main_v5) (V c main_v6) := by
  refine (dat2 V c).arrAt_eq_of_cover 6 _ (fun t _ => ?_) (fun y => ?_)
  · show oblk2 V c t = _
    rw [oblk2_eq]
    funext y
    have h0 : (((cfg2.win 6).rect t).emb y 0).val = t.val * 1024 + (y 0).val := by
      rw [Window.rect_emb_val (cfg2.win 6) t y 0, (index2_6 t).1]; rfl
    have h1 : (((cfg2.win 6).rect t).emb y 1).val = (y 1).val := by
      rw [Window.rect_emb_val (cfg2.win 6) t y 1, (index2_6 t).2]; exact Nat.zero_add _
    have hy : (y 0).val < 1024 := (y 0).isLt
    show _ = denseOut (F := F) _ _ _ _ _ _ (((cfg2.win 6).rect t).emb y)
    unfold denseOut
    have ht : blkOf (((cfg2.win 6).rect t).emb y) = t := Fin.ext (by show (((cfg2.win 6).rect t).emb y 0).val / 1024 = _; rw [h0]; omega)
    rw [ht]
    congr 1
    funext a
    apply Fin.ext
    fin_cases a
    · show (y 0).val = (((cfg2.win 6).rect t).emb y 0).val % 1024
      rw [h0]; omega
    · exact h1.symm
  · have hd : ∃ t : Fin cfg2.N, t.val = (y 0).val / 1024 := ⟨blkOf y, rfl⟩
    obtain ⟨t, ht⟩ := hd
    refine ⟨t, flush2_6 _, ?_⟩
    show y ∈ ((cfg2.win 6).arr.view.slice ((cfg2.win 6).rect t)).set
    rw [View.set_slice_whole]
    refine ((cfg2.win 6).mem_rect_iff t y).mpr ?_
    intro a
    have h0 : (y 0).val < 32768 := (y 0).isLt
    have h1 : (y 1).val < 768 := (y 1).isLt
    fin_cases a
    · show (cfg2.win 6).index t 0 * 1024 ≤ (y 0).val ∧ (y 0).val < (cfg2.win 6).index t 0 * 1024 + 1024
      rw [(index2_6 t).1]; omega
    · show (cfg2.win 6).index t 1 * 768 ≤ (y 1).val ∧ (y 1).val < (cfg2.win 6).index t 1 * 768 + 768
      rw [(index2_6 t).2]; omega

end Cert.Proof

end
-- ==== Proof.Main.lean ====
/-
  The program's run: @main on the TensorCore (host operations, the vector-subcore call, the branch on the counts and the
  pipeline it names), the launch, and the memory every run ends in.
-/
module

public import proofs.«01_k».proof.Proof.Tile
public import proofs.«01_k».proof.Proof.Sparse
public import proofs.«01_k».proof.Proof.Dense
public import Idealize.ShloMosaic.Lib.HostLoop.Rules

@[expose] public section

noncomputable section

namespace Cert.Proof

open Cert.KernelIdeal Cert.KernelIdeal.Gen

open Idealize.ShloMosaic
open Idealize.ShloMosaic.TcCoe Idealize.ShloMosaic.Tactic
open Idealize.ShloMosaic.StableHlo (held after wp_hlo_within)
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellsGhost toksInit)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The TensorCore's buffers at a valuation -/

/-- The TensorCore's unscoped references. -/
def ucRefs : Finset (DevRef τ sig) := (StableHlo.tcRefs τ sig).filter fun b => ¬ b.isScoped

theorem mem_ucRefs (r : Ref sig .tc) (h : r.isScoped = false) : Proc.devRef (τ := τ) .tc r ∈ ucRefs :=
  Finset.mem_filter.mpr ⟨StableHlo.devRef_mem_tcRefs r, by rw [Bool.not_eq_true]; exact h⟩

theorem unscopedBufs_held (c : Dev nD) (W : Valuation τ sig (Elt F)) :
    (unscopedBufs c (fun b => W b) : sProp 𝕄) = held (c : Thread nD τ) ucRefs W := by
  unfold unscopedBufs StableHlo.held ucRefs StableHlo.tcRefs
  rw [Finset.filter_map, bigSep_map]
  rfl

abbrev x' : DevRef τ sig := Proc.devRef .tc (main_v1 : Ref sig .tc)
abbrev i' : DevRef τ sig := Proc.devRef .tc (main_v7_0 : Ref sig .tc)
abbrev n' : DevRef τ sig := Proc.devRef .tc (main_v7_1 : Ref sig .tc)

/-- The call's three arrays out of the rest. -/
theorem held_three (d : Dev nD) (W : Valuation τ sig (Elt F)) :
    (held (T d) ucRefs W : sProp 𝕄) = iprop(((xLoc d ↦{fullShare} W x') ∗ (iLoc d ↦{fullShare} W i') ∗ (nLoc d ↦{fullShare} W n')) ∗ held (T d) (ucRefs \ {x', i', n'}) W) := by
  rw [StableHlo.held_sub_split (T d) (T := {x', i', n'}) (S := ucRefs) (by
    intro b hb
    simp only [Finset.mem_insert, Finset.mem_singleton] at hb
    rcases hb with rfl | rfl | rfl <;> exact mem_ucRefs _ rfl)]
  congr 1
  unfold held
  rw [SparseCore.bigSep_insert' (by decide), SparseCore.bigSep_insert' (by decide), bigSep_singleton]

/-! ## The valuations along @main -/

abbrev V0 (d : Dev nD) : Valuation τ sig (Elt F) := fun b => m (d, b)

/-- The operations before the call, -/
def opsA : List (HloOp τ sig (Elt F)) :=
  [StableHlo.reshape main_arg0 main_v0 (rfl : (.f32 : EltTy) = .f32) shapeCasts_S4x8192x768_S32768x768,
   StableHlo.reshape main_arg1 main_v1 (rfl : (.i32 : EltTy) = .i32) shapeCasts_S4x8192_S32768,
   StableHlo.unary main_arg2 main_v2 ((transpose S768x768 [1, 0] · transposes_S768x768_S768x768_1_0) : (⟨S768x768, .f32⟩ : BufTy).Contents (Elt F) → (⟨S768x768, .f32⟩ : BufTy).Contents (Elt F)),
   StableHlo.unary main_v2 main_v3 ((truncf .bf16 · bitsLt_bf16_f32) : (⟨S768x768, .f32⟩ : BufTy).Contents (Elt F) → (⟨S768x768, .bf16⟩ : BufTy).Contents (Elt F)),
   StableHlo.reshape main_arg3 main_v4 (rfl : (.f32 : EltTy) = .f32) shapeCasts_S768_S1x768,
   StableHlo.reshape main_arg4 main_v5 (rfl : (.f32 : EltTy) = .f32) shapeCasts_S768_S1x768,
   StableHlo.reshape main_arg5 main_v6 (rfl : (.f32 : EltTy) = .f32) shapeCasts_S768_S1x768]

/-- between the call and the branch, -/
def opsB : List (HloOp τ sig (Elt F)) :=
  [StableHlo.unary main_v7_1 main_v8 ((extractStridedSlice S32x1 ![0, 0] · slices_S32x16_S32x1_0_0) : (⟨S32x16, .i32⟩ : BufTy).Contents (Elt F) → (⟨S32x1, .i32⟩ : BufTy).Contents (Elt F)),
   StableHlo.reshape main_v8 main_v9 (rfl : (.i32 : EltTy) = .i32) shapeCasts_S32x1_S32,
   StableHlo.nullary main_c (constantI S_ 32 128#32),
   StableHlo.unary main_c main_v10 (broadcastInDim S32 ![] bcast_S_S32 : (⟨S_, .i32⟩ : BufTy).Contents (Elt F) → (⟨S32, .i32⟩ : BufTy).Contents (Elt F)),
   StableHlo.binary main_v9 main_v10 main_v11 (cmpi .sgt : (⟨S32, .i32⟩ : BufTy).Contents (Elt F) → (⟨S32, .i32⟩ : BufTy).Contents (Elt F) → (⟨S32, .i1⟩ : BufTy).Contents (Elt F)),
   StableHlo.nullary main_c_0 (constantI S_ 1 0#1),
   StableHlo.binary main_v11 main_c_0 main_v12 ((fun x v => Host.reduce IntOp.ori x v reducesTo_S32_S_d0 h_S_) : (⟨S32, .i1⟩ : BufTy).Contents (Elt F) → (⟨S_, .i1⟩ : BufTy).Contents (Elt F) → (⟨S_, .i1⟩ : BufTy).Contents (Elt F))]

/-- the branch's index, -/
abbrev opI : HloOp τ sig (Elt F) := StableHlo.unary main_v12 main_v13 ((extui 32 · natLt_1_32) : (⟨S_, .i1⟩ : BufTy).Contents (Elt F) → (⟨S_, .i32⟩ : BufTy).Contents (Elt F))
/-- the branches' own, -/
abbrev opS : HloOp τ sig (Elt F) := StableHlo.unary main_case0b0_v16 main_v14 id
abbrev opM : HloOp τ sig (Elt F) := StableHlo.reshape main_v1 main_case0b1_v16 (rfl : (.i32 : EltTy) = .i32) shapeCasts_S32768_S32768x1
abbrev opD : HloOp τ sig (Elt F) := StableHlo.unary main_case0b1_v17 main_v14 id
/-- and the last one. -/
abbrev opR : HloOp τ sig (Elt F) := StableHlo.reshape main_v14 main_v15 (rfl : (.f32 : EltTy) = .f32) shapeCasts_S32768x768_S4x8192x768

/-- After the operations before the call. -/
def VA (d : Dev nD) : Valuation τ sig (Elt F) := after opsA (V0 m d)
/-- The flat mask the call reads. -/
def Mk (d : Dev nD) : S32768.Idx → BitVec 32 := VA m d x'
/-- After the call: the positions and the counts. -/
def VB (d : Dev nD) : Valuation τ sig (Elt F) := Function.update (Function.update (VA m d) i' (idxV (Mk m d) : i'.ty.Contents (Elt F))) n' (cntV (Mk m d) : n'.ty.Contents (Elt F))
/-- Before the branch runs. -/
def VC (d : Dev nD) : Valuation τ sig (Elt F) := (opI (F := F)).result (after opsB (VB m d))
/-- The branch's index. -/
def ovf (d : Dev nD) : BitVec 32 := (extui 32 (after opsB (VB m d) (Proc.devRef .tc main_v12) : (⟨S_, .i1⟩ : BufTy).Contents (Elt F)) natLt_1_32) HostLoop.idx0

/-- After the first pipeline, and after the second. -/
def VS (d : Dev nD) : Valuation τ sig (Elt F) := Function.update (VC m d) (Proc.devRef .tc main_case0b0_v16)
  (sparseOut (F := F) (VC m d (Proc.devRef .tc main_v7_1)) (VC m d (Proc.devRef .tc main_v0)) (VC m d (Proc.devRef .tc main_v7_0)) (VC m d (Proc.devRef .tc main_v3))
    (VC m d (Proc.devRef .tc main_v4)) (VC m d (Proc.devRef .tc main_v5)) (VC m d (Proc.devRef .tc main_v6)))
/-- In the second branch, after the mask is made a column. -/
def VM (d : Dev nD) : Valuation τ sig (Elt F) := (opM (F := F)).result (VC m d)
/-- After the second pipeline. -/
def VD (d : Dev nD) : Valuation τ sig (Elt F) := Function.update (VM m d) (Proc.devRef .tc main_case0b1_v17)
  (denseOut (F := F) (VM m d (Proc.devRef .tc main_v0)) (VM m d (Proc.devRef .tc main_case0b1_v16)) (VM m d (Proc.devRef .tc main_v3))
    (VM m d (Proc.devRef .tc main_v4)) (VM m d (Proc.devRef .tc main_v5)) (VM m d (Proc.devRef .tc main_v6)))
/-- At the end. -/
def VE (d : Dev nD) : Valuation τ sig (Elt F) :=
  (opR (F := F)).result (if HostLoop.branch (ovf m d) 1 = 0 then (opS (F := F)).result (VS m d) else (opD (F := F)).result (VD m d))

/-! ## The launch element -/

abbrev G (d : Dev nD) : sProp 𝕄 :=
  iprop((cellsGhost (Pipeline.pin (pcfgs (F := F)) adm) EB 0 d ∗ toksInit (Pipeline.pin (pcfgs (F := F)) adm) EB 0 d)
    ∗ (cellsGhost (Pipeline.pin (pcfgs (F := F)) adm) EB 1 d ∗ toksInit (Pipeline.pin (pcfgs (F := F)) adm) EB 1 d))

theorem pinj : Function.Injective (Pipeline.cellOf (nD := nD) (τ := τ) (Pipeline.pin (pcfgs (F := F)) adm)) := cellOf_inj

def u₀ : UU := (initOf (K (F := F)).hsCells (K (F := F)).hsToks,
  (initOf (Pipeline.cells (Pipeline.pin (pcfgs (F := F)) adm) pinj) (Pipeline.launchToks (Pipeline.pin (pcfgs (F := F)) adm) pinj), 1))

theorem bigSep_emp' {I : Type} (s : Finset I) : (bigSep s fun _ => iprop(emp)) = (iprop(emp) : sProp 𝕄) := bigSep_emp_const s

theorem hx (M : Dev nD → S32768.Idx → BitVec 32) : (iprop(emp) : sProp 𝕄) ⊢ bigSep Finset.univ fun thr : Thread nD τ => bigSep Finset.univ fun q : Fin 1 => (P (F := F) M).x q thr := by
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]

theorem ghosts :
    iprop((bigSep Finset.univ fun c : Dev nD => bigSep Finset.univ fun p => cellsGhost (Pipeline.pin (pcfgs (F := F)) adm) EB p c)
      ∗ (bigSep Finset.univ fun c : Dev nD => bigSep Finset.univ fun p => (toksInit (Pipeline.pin (pcfgs (F := F)) adm) EB p c : sProp 𝕄)))
    ⊢ bigSep Finset.univ fun d : Dev nD => G (F := F) d := by
  have two : ∀ f : Fin 2 → sProp 𝕄, bigSep Finset.univ f = iprop(f 0 ∗ f 1) := fun f => by
    rw [show (Finset.univ : Finset (Fin 2)) = {0, 1} by decide, SparseCore.bigSep_insert' (by decide), bigSep_singleton]
  rw [show (Finset.univ : Finset (Dev nD)) = {0} by decide]
  simp only [bigSep_singleton, two]
  iintro ⟨⟨Ha, Hb⟩, Hc, Hd⟩
  isplitl [Ha Hc]
  · isplitl [Ha] <;> iassumption
  · isplitl [Hb] <;> iassumption

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P (F := F) (Mk m)).x q thr) := by
  unfold u₀
  iintro Hu
  ihave H := (ownU_pair _ _) $$ Hu
  icases H with ⟨HH, HB⟩
  ihave H2 := (own_pair_emb embR _ _) $$ HB
  icases H2 with ⟨HP, -⟩
  have e : ∀ a : UB, (BI.own (((Emb.inl : Emb UB (UB × Counters)).trans (embR : Emb (UB × Counters) 𝕄)) a) : sProp 𝕄) ⊢ BI.own ((EB : Emb UB 𝕄) a) := fun a => BI.Entails.refl _
  ihave HP := (e _) $$ HP
  imod (Pipeline.fund_ghost (Pipeline.pin (pcfgs (F := F)) adm) EB pinj) $$ HP with ⟨Hg, Ht⟩
  imodintro
  isplitl [HH]; · iexact HH
  isplitl [Hg Ht]
  · iapply (ghosts (F := F)) $$ [Hg Ht]
    isplitl [Hg] <;> iassumption
  iapply (hx (F := F) (Mk m)) $$ []
  iempintro

/-! ## @main on the TensorCore -/

/-- A pipeline's region as @main calls it. -/
theorem wp_region [∀ e, Nonempty (Elt F e)] {pd} {p : Fin 2} (R : Pipeline.RegionSeg (pcfgs (F := F)) adm pd (none : HIx 1) defs₀ 𝒱₀ (K (F := F)).L (K (F := F)).lev p)
    (d : Dev nD) (A B : sProp 𝕄) (hA : A = R.pre d) (hB : R.post d = B) (Q : PUnit → sProp 𝕄) :
    iprop((iprop(boundary (T d) ∗ B) -∗ Q ⟨⟩) ∗ boundary (T d) ∗ A ∗ levAts (K (F := F)).L (K (F := F)).lev
        ∗ cellsGhost (Pipeline.pin (pcfgs (F := F)) adm) EB p d ∗ toksInit (Pipeline.pin (pcfgs (F := F)) adm) EB p d)
      ⊢ wp frame (wpE ((K (F := F)).defs (D (F := F))) 𝒱 (T d) none) Set.univ
          (Prog.lift (.customCall (SparseCore.inner (Pipeline.entry p)) ())) Q := by
  subst hA hB
  refine BI.Entails.trans ?_ ((K (F := F)).wp_liftProg (D (F := F)) 𝒱 (T d) Set.univ none (Prog.lift (.customCall (Pipeline.entry p) ())) Q)
  refine BI.Entails.trans ?_ (Pipeline.RegionSeg.wp (pcfgs (F := F)) adm pd none pinj EB defs₀ 𝒱₀ (K (F := F)).L (K (F := F)).lev R d none (fun _ h => nomatch h) .ret Q)
  show (_ : sProp 𝕄) ⊢ _
  iintro ⟨Hk, H⟩
  isplitl [Hk]
  · iintro Hp
    rw [wp_ret]; imodintro
    iapply Hk $$ Hp
  · iexact H

theorem sub₂ {a b : Ref sig .tc} (ha : a.isScoped = false) (hb : b.isScoped = false) :
    ({Proc.devRef (τ := τ) .tc a, Proc.devRef .tc b} : Finset (DevRef τ sig)) ⊆ ucRefs := by
  intro x hx
  rcases Finset.mem_insert.mp hx with rfl | hx
  · exact mem_ucRefs _ ha
  · cases Finset.mem_singleton.mp hx; exact mem_ucRefs _ hb

theorem sub₃ {a b c : Ref sig .tc} (ha : a.isScoped = false) (hb : b.isScoped = false) (hc : c.isScoped = false) :
    ({Proc.devRef (τ := τ) .tc a, Proc.devRef .tc b, Proc.devRef .tc c} : Finset (DevRef τ sig)) ⊆ ucRefs := by
  intro x hx
  rcases Finset.mem_insert.mp hx with rfl | hx
  · exact mem_ucRefs _ ha
  · exact sub₂ hb hc hx

/-- One host operation of @main over the TensorCore's buffers. -/
theorem wp_host {β : Type} (d : Dev nD) (op : HloOp τ sig (Elt F)) (hsub : op.bufs ⊆ ucRefs) (hf : op.fresh = ∅) (W W' : Valuation τ sig (Elt F)) (hW : op.result W = W')
    (g : ((b : op.writes) → b.1.ty.Contents (Elt F)) → β) (v : β) (hv : g (op.fn fun b => W b.1) = v) (Q : β → sProp 𝕄) :
    iprop((boundary (T d) ∗ held (T d) ucRefs W) ∗ ((boundary (T d) ∗ held (T d) ucRefs W') -∗ Q v))
      ⊢ wp frame (wpE ((K (F := F)).defs (D (F := F))) 𝒱 (T d) none) Set.univ (hlo rfl op fun w => .ret (g w)) Q := by
  subst hW hv
  iintro ⟨H, Hk⟩
  iapply (wp_hlo_within 𝒱 (T d) none Set.univ (op := op) (S := ucRefs) hsub (V := W) hf) $$ [H]
  · iexact H
  iintro H
  rw [wp_ret]; imodintro
  iapply Hk $$ H

/-- What @main leaves: every buffer of the TensorCore at the last valuation. -/
abbrev FIN (d : Dev nD) : sProp 𝕄 := held (T d) ucRefs (VE m d)

/-- The call's arrays out of the rest, as it takes them. -/
theorem held_VA (d : Dev nD) :
    (held (T d) ucRefs (VA m d) : sProp 𝕄) = iprop((xPts (Mk m) d ∗ iPts d (VA m d i') ∗ nPts d (VA m d n')) ∗ held (T d) (ucRefs \ {x', i', n'}) (VA m d)) :=
  held_three d (VA m d)

/-- The call's arrays back among the rest, at what the call leaves. -/
theorem held_VB (d : Dev nD) :
    (iprop((xPts (Mk m) d ∗ iPts d (idxV (Mk m d)) ∗ nPts d (cntV (Mk m d))) ∗ held (T d) (ucRefs \ {x', i', n'}) (VA m d)) : sProp 𝕄)
      = held (T d) ucRefs (VB m d) := by
  rw [held_three d (VB m d)]
  have hx : VB m d x' = VA m d x' := by
    unfold VB; rw [Function.update_of_ne (show x' ≠ n' by decide), Function.update_of_ne (show x' ≠ i' by decide)]
  have hi : VB m d i' = (idxV (Mk m d) : i'.ty.Contents (Elt F)) := by
    unfold VB; rw [Function.update_of_ne (show i' ≠ n' by decide), Function.update_self]
  have hn : VB m d n' = (cntV (Mk m d) : n'.ty.Contents (Elt F)) := by
    unfold VB; rw [Function.update_self]
  have hr : (held (T d) (ucRefs \ {x', i', n'}) (VB m d) : sProp 𝕄) = held (T d) (ucRefs \ {x', i', n'}) (VA m d) :=
    StableHlo.held_congr (T d) fun b hb => by
      simp only [Finset.mem_sdiff, Finset.mem_insert, Finset.mem_singleton, not_or] at hb
      unfold VB; rw [Function.update_of_ne hb.2.2.2, Function.update_of_ne hb.2.2.1]
  rw [hr, hx, hi, hn]
  rfl

/-- Between calls the TensorCore owes nothing: what a region takes and gives back. -/
theorem tc_idle (d : Dev nD) : ((K (F := F)).tcSt EH d 1 : sProp 𝕄) ⊢ iprop(idle (F := F) d ∗ (idle (F := F) d -∗ (K (F := F)).tcSt EH d 1)) := by
  unfold SparseCore.Cfg.tcSt
  rw [(K (F := F)).Otc_end d (n := 1) (le_refl _)]
  iintro ⟨⟨%W, %hW, HO⟩, Hrest⟩
  isplitl [HO]
  · iexists W; isplitr
    · ipureintro; exact fun p hp => hW p hp
    · iexact HO
  · iintro ⟨%W', %hW', HO⟩
    isplitl [HO]
    · iexists W'; isplitr
      · ipureintro; exact fun p hp => hW' hp
      · iexact HO
    · iexact Hrest

/-- The first pipeline's region, from the TensorCore's state after the call. -/
theorem wp_region1 [∀ e, Nonempty (Elt F e)] (d : Dev nD) (Q : PUnit → sProp 𝕄) :
    iprop(levAts (K (F := F)).L (K (F := F)).lev ∗ G d ∗ (K (F := F)).tcSt EH d 1 ∗ (boundary (T d) ∗ held (T d) ucRefs (VC m d))
        ∗ (((K (F := F)).tcSt EH d 1 ∗ (boundary (T d) ∗ held (T d) ucRefs (VS m d))) -∗ Q ⟨⟩))
      ⊢ wp frame (wpE ((K (F := F)).defs (D (F := F))) 𝒱 (T d) none) Set.univ
          (Prog.lift (.customCall (SparseCore.inner (Pipeline.entry 0)) ())) Q := by
  iintro ⟨#Hl, ⟨⟨Hg, Ht⟩, -⟩, Hst, ⟨Hb, Hh⟩, Hk⟩
  ihave Hi := (tc_idle (F := F) d) $$ Hst
  icases Hi with ⟨Hi, Hback⟩
  iapply (wp_region (reg1 (fun c b => VC m c b) (fun c b => VS m c b) (fun _ => iprop(emp))
    (fun c => by rw [out1_eq]; exact Function.update_self _ _ _)
    (fun c b hb => Function.update_of_ne (StableHlo.devRef_ne_of_ne hb) _ _)) d
    iprop(unscopedBufs d (fun b => VC m d b) ∗ emp ∗ idle (F := F) d) iprop(unscopedBufs d (fun b => VS m d b) ∗ emp ∗ idle (F := F) d) rfl rfl Q)
  isplitl [Hk Hback]
  · iintro ⟨Hb, Hp⟩
    icases Hp with ⟨Hub, -, Hi⟩
    iapply Hk
    isplitl [Hback Hi]
    · iapply Hback $$ Hi
    isplitl [Hb]; · iexact Hb
    iapply (Entails.of_eq (unscopedBufs_held d (VS m d))) $$ Hub
  isplitl [Hb]; · iexact Hb
  isplitl [Hh Hi]
  · isplitl [Hh]
    · iapply (Entails.of_eq (unscopedBufs_held d (VC m d)).symm) $$ Hh
    isplitr; · iempintro
    iexact Hi
  isplitr; · iexact Hl
  isplitl [Hg] <;> iassumption

/-- The second pipeline's. -/
theorem wp_region2 [∀ e, Nonempty (Elt F e)] (d : Dev nD) (Q : PUnit → sProp 𝕄) :
    iprop(levAts (K (F := F)).L (K (F := F)).lev ∗ G d ∗ (K (F := F)).tcSt EH d 1 ∗ (boundary (T d) ∗ held (T d) ucRefs (VM m d))
        ∗ (((K (F := F)).tcSt EH d 1 ∗ (boundary (T d) ∗ held (T d) ucRefs (VD m d))) -∗ Q ⟨⟩))
      ⊢ wp frame (wpE ((K (F := F)).defs (D (F := F))) 𝒱 (T d) none) Set.univ
          (Prog.lift (.customCall (SparseCore.inner (Pipeline.entry 1)) ())) Q := by
  iintro ⟨#Hl, ⟨-, Hg, Ht⟩, Hst, ⟨Hb, Hh⟩, Hk⟩
  ihave Hi := (tc_idle (F := F) d) $$ Hst
  icases Hi with ⟨Hi, Hback⟩
  iapply (wp_region (reg2 (fun c b => VM m c b) (fun c b => VD m c b) (fun _ => iprop(emp))
    (fun c => by rw [out2_eq]; exact Function.update_self _ _ _)
    (fun c b hb => Function.update_of_ne (StableHlo.devRef_ne_of_ne hb) _ _)) d
    iprop(unscopedBufs d (fun b => VM m d b) ∗ emp ∗ idle (F := F) d) iprop(unscopedBufs d (fun b => VD m d b) ∗ emp ∗ idle (F := F) d) rfl rfl Q)
  isplitl [Hk Hback]
  · iintro ⟨Hb, Hp⟩
    icases Hp with ⟨Hub, -, Hi⟩
    iapply Hk
    isplitl [Hback Hi]
    · iapply Hback $$ Hi
    isplitl [Hb]; · iexact Hb
    iapply (Entails.of_eq (unscopedBufs_held d (VD m d))) $$ Hub
  isplitl [Hb]; · iexact Hb
  isplitl [Hh Hi]
  · isplitl [Hh]
    · iapply (Entails.of_eq (unscopedBufs_held d (VM m d)).symm) $$ Hh
    isplitr; · iempintro
    iexact Hi
  isplitr; · iexact Hl
  isplitl [Hg] <;> iassumption

/-- @main from the launch element to its end: every buffer at its final contents. -/
theorem hmain [∀ e, Nonempty (Elt F e)] (κ : GSem nD τ sig → ℕ) (d : Dev nD) :
    iprop((K (F := F)).ctx EH (P (F := F) (Mk m)) κ ∗ (K (F := F)).tcSt EH d 0 ∗ (K (F := F)).tcRes m ρ d ∗ G d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (T d) ucRefs (V0 m d) from unscopedBufs_held d (V0 m d)]
  simp only [main, wp_bind, wp_pure]
  iintro ⟨#Hctx, Hst, ⟨Hb, Hh, Hts, -⟩, HG⟩
  iapply (wp_host d _ (sub₂ rfl rfl) rfl _ _ rfl _ _ rfl _)
  isplitl [Hb Hh]; · isplitl [Hb] <;> iassumption
  iintro ⟨Hb, Hh⟩
  iapply (wp_host d _ (sub₂ rfl rfl) rfl _ _ rfl _ _ rfl _)
  isplitl [Hb Hh]; · isplitl [Hb] <;> iassumption
  iintro ⟨Hb, Hh⟩
  iapply (wp_host d _ (sub₂ rfl rfl) rfl _ _ rfl _ _ rfl _)
  isplitl [Hb Hh]; · isplitl [Hb] <;> iassumption
  iintro ⟨Hb, Hh⟩
  iapply (wp_host d _ (sub₂ rfl rfl) rfl _ _ rfl _ _ rfl _)
  isplitl [Hb Hh]; · isplitl [Hb] <;> iassumption
  iintro ⟨Hb, Hh⟩
  iapply (wp_host d _ (sub₂ rfl rfl) rfl _ _ rfl _ _ rfl _)
  isplitl [Hb Hh]; · isplitl [Hb] <;> iassumption
  iintro ⟨Hb, Hh⟩
  iapply (wp_host d _ (sub₂ rfl rfl) rfl _ _ rfl _ _ rfl _)
  isplitl [Hb Hh]; · isplitl [Hb] <;> iassumption
  iintro ⟨Hb, Hh⟩
  iapply (wp_host d _ (sub₂ rfl rfl) rfl _ (VA m d) rfl _ _ rfl _)
  isplitl [Hb Hh]; · isplitl [Hb] <;> iassumption
  iintro ⟨Hb, Hh⟩
  ihave Hh := (Entails.of_eq (held_VA m d)) $$ Hh
  icases Hh with ⟨Hxin, Hrest⟩
  ihave Hpre := (call_pre (F := F) (Mk m) d (VA m d i') (VA m d n')) $$ Hxin
  iapply ((K (F := F)).wp_run (D (F := F)) 𝒱 (EH := EH) (P := P (F := F) (Mk m)) κ d 0) $$ [Hst Hpre Hb Hrest Hts HG]
  isplitr; · iexact Hctx
  isplitl [Hst]; · iexact Hst
  isplitl [Hpre]; · iexact Hpre
  iintro ⟨Hst, Hdn⟩
  ihave Hout := (call_post (F := F) (Mk m) d) $$ Hdn
  ihave Hh := (Entails.of_eq (held_VB m d)) $$ [Hout Hrest]
  · isplitl [Hout] <;> iassumption
  iapply (wp_host d _ (sub₂ rfl rfl) rfl _ _ rfl _ _ rfl _)
  isplitl [Hb Hh]; · isplitl [Hb] <;> iassumption
  iintro ⟨Hb, Hh⟩
  iapply (wp_host d _ (sub₂ rfl rfl) rfl _ _ rfl _ _ rfl _)
  isplitl [Hb Hh]; · isplitl [Hb] <;> iassumption
  iintro ⟨Hb, Hh⟩
  iapply (wp_host d _ (Finset.singleton_subset_iff.mpr (mem_ucRefs _ rfl)) rfl _ _ rfl _ _ rfl _)
  isplitl [Hb Hh]; · isplitl [Hb] <;> iassumption
  iintro ⟨Hb, Hh⟩
  iapply (wp_host d _ (sub₂ rfl rfl) rfl _ _ rfl _ _ rfl _)
  isplitl [Hb Hh]; · isplitl [Hb] <;> iassumption
  iintro ⟨Hb, Hh⟩
  iapply (wp_host d _ (sub₃ rfl rfl rfl) rfl _ _ rfl _ _ rfl _)
  isplitl [Hb Hh]; · isplitl [Hb] <;> iassumption
  iintro ⟨Hb, Hh⟩
  iapply (wp_host d _ (Finset.singleton_subset_iff.mpr (mem_ucRefs _ rfl)) rfl _ _ rfl _ _ rfl _)
  isplitl [Hb Hh]; · isplitl [Hb] <;> iassumption
  iintro ⟨Hb, Hh⟩
  iapply (wp_host d _ (sub₃ rfl rfl rfl) rfl _ (after opsB (VB m d)) rfl _ _ rfl _)
  isplitl [Hb Hh]; · isplitl [Hb] <;> iassumption
  iintro ⟨Hb, Hh⟩
  iapply (wp_host d (opI (F := F)) (sub₂ rfl rfl) rfl (after opsB (VB m d)) (VC m d) rfl _ (ovf m d) rfl _)
  isplitl [Hb Hh]; · isplitl [Hb] <;> iassumption
  iintro ⟨Hb, Hh⟩
  ihave #Hl := ((K (F := F)).ctx_levAts κ) $$ Hctx
  rw [HostLoop.case_succ]
  rcases (show HostLoop.branch (ovf m d) 1 = 0 ∨ HostLoop.branch (ovf m d) 1 = 1 by generalize HostLoop.branch (ovf m d) 1 = b; revert b; decide) with hbr | hbr
  · rw [hbr]
    simp only [wp_bind, wp_pure]
    iapply (wp_region1 m d _)
    isplitr; · iexact Hl
    isplitl [HG]; · iexact HG
    isplitl [Hst]; · iexact Hst
    isplitl [Hb Hh]; · isplitl [Hb] <;> iassumption
    iintro ⟨Hst, Hb, Hh⟩
    iapply (wp_host d (opS (F := F)) (sub₂ rfl rfl) rfl _ _ rfl _ _ rfl _)
    isplitl [Hb Hh]; · isplitl [Hb] <;> iassumption
    iintro ⟨Hb, Hh⟩
    imodintro
    iapply (wp_host d (opR (F := F)) (sub₂ rfl rfl) rfl _ (VE m d) (by unfold VE; rw [if_pos hbr]) _ _ rfl _)
    isplitl [Hb Hh]; · isplitl [Hb] <;> iassumption
    iintro ⟨Hb, Hh⟩
    imodintro
    isplitl [Hst]; · iexact Hst
    isplitl [Hh]; · iexact Hh
    isplitl [Hb] <;> iassumption
  · rw [hbr]
    simp only [wp_bind, wp_pure]
    iapply (wp_host d (opM (F := F)) (sub₂ rfl rfl) rfl _ (VM m d) rfl _ _ rfl _)
    isplitl [Hb Hh]; · isplitl [Hb] <;> iassumption
    iintro ⟨Hb, Hh⟩
    iapply (wp_region2 m d _)
    isplitr; · iexact Hl
    isplitl [HG]; · iexact HG
    isplitl [Hst]; · iexact Hst
    isplitl [Hb Hh]; · isplitl [Hb] <;> iassumption
    iintro ⟨Hst, Hb, Hh⟩
    iapply (wp_host d (opD (F := F)) (sub₂ rfl rfl) rfl _ _ rfl _ _ rfl _)
    isplitl [Hb Hh]; · isplitl [Hb] <;> iassumption
    iintro ⟨Hb, Hh⟩
    imodintro
    iapply (wp_host d (opR (F := F)) (sub₂ rfl rfl) rfl _ (VE m d) (by unfold VE; rw [if_neg (by rw [hbr]; decide)]) _ _ rfl _)
    isplitl [Hb Hh]; · isplitl [Hb] <;> iassumption
    iintro ⟨Hb, Hh⟩
    imodintro
    isplitl [Hst]; · iexact Hst
    isplitl [Hh]; · iexact Hh
    isplitl [Hb] <;> iassumption

/-! ## The program's run -/

/-- The TensorCore's buffers at the end. -/
def fq (d : Dev nD) (s' : Phys nD τ sig (Elt F)) : Prop :=
  ∀ r : {r : Ref sig .tc // r.isScoped = false}, s'.mem.mem ((SparseCore.T d).loc r.1) = VE m d (Proc.devRef .tc r.1)

/-- The final resources give the final contents. -/
theorem hfin (d : Dev nD) (s' : Phys nD τ sig (Elt F)) : iprop(FIN m d ∗ SI s') ⊢ (⌜fq m d s'⌝ : sProp 𝕄) := by
  have one : ∀ r : Ref sig .tc, r.isScoped = false → iprop(FIN m d ∗ SI s') ⊢ (⌜s'.mem.mem ((SparseCore.T d).loc r) = VE m d (Proc.devRef .tc r)⌝ : sProp 𝕄) := by
    intro r hr
    have hs : (FIN m d : sProp 𝕄) ⊢ ((SparseCore.T d).loc r ↦{fullShare} VE m d (Proc.devRef .tc r)) :=
      bigSep_elim (Φ := fun b : DevRef τ sig => (((SparseCore.T d).1, b) : Loc nD τ sig) ↦{fullShare} VE m d b) (mem_ucRefs r hr)
    iintro ⟨Hh, HSI⟩
    ihave Hx := hs $$ Hh
    ihave H := (SI_pointsTo_agree (st := s') (ℓ := (SparseCore.T d).loc r) (I := Finset.univ) (q := fullShare) (f := VE m d (Proc.devRef .tc r))) $$ [HSI Hx]
    · isplitl [HSI] <;> iassumption
    icases H with %hx
    ipureintro; exact funext fun i => hx i (Finset.mem_univ i)
  unfold fq
  by_cases h : ∀ r : {r : Ref sig .tc // r.isScoped = false}, s'.mem.mem ((SparseCore.T d).loc r.1) = VE m d (Proc.devRef .tc r.1)
  · exact BI.pure_intro h
  · obtain ⟨r, hr⟩ := not_forall.mp h
    exact (one r.1 r.2).trans (BI.pure_mono fun he => absurd he hr)

/-- What every run ends in: the TensorCore's buffers at the last valuation, every semaphore zero. -/
def QC : PUnit × MemSt nD τ sig (Elt F) → Prop := fun r =>
  (∀ c : Dev nD, ∀ b : Ref sig .tc, b.isScoped = false → r.2.mem ((SparseCore.T c).loc b) = VE m c (Proc.devRef .tc b)) ∧ r.2.sem = fun _ => 0

/-- The whole program runs and ends with every buffer at its final contents and every semaphore at zero. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (F := F) (Mk m)) (A := ∅) facts v₀
    (fun q hq => match q with | 0 => nomatch hq)
    (fun q _ => match q with | 0 => tileObl (Mk m) facts)
    (fun q _ => match q with | 0 => SparseCore.Cfg.VecSplit.of_plain (vecSplit (Mk m)))
    m ρ main G (FIN m) (u₀ (F := F)) (sep_elim_left.trans (hu₀ m)) (hmain m ρ) (fq m) (hfin m) (QC m) (fun _ h hz => ⟨fun c b hb => h c ⟨b, hb⟩, hz⟩)

end Cert.Proof

end
-- ==== Proof.Same.lean ====
/-
  The two printings of the kernel, `Kernel` and `KernelIdeal`, are one program: the same body table and the same
  @main. A run of one is a run of the other.
-/
module

public import proofs.«01_k».proof.Proof.Main
public import proofs.«01_k».proof.Proof.Gen.Kernel

@[expose] public section

noncomputable section

namespace Cert.Proof

open Idealize.ShloMosaic Idealize.SL.Sem

variable {F : FTy → Type} [FloatOps F]

/-- The bodies of the vector-subcore kernel and of the two pipelines. -/
theorem sc_compact_eq : @Cert.Kernel.cc0__sc_compact F _ _ = @Cert.KernelIdeal.cc0__sc_compact F _ _ := rfl
theorem sparse_body_eq : @Cert.Kernel.cc1__sparse_body F _ _ = @Cert.KernelIdeal.cc1__sparse_body F _ _ := rfl
theorem dense_body_eq : @Cert.Kernel.cc2__dense_body F _ _ = @Cert.KernelIdeal.cc2__dense_body F _ _ := rfl

set_option maxHeartbeats 4000000 in
/-- The kernels' body table. -/
theorem bodies_eq : @Cert.Kernel.defs₀ F _ _ = @Cert.KernelIdeal.defs₀ F _ _ := by
  funext p l a
  match p, l, a with
  | .scVector c s, ⟨0, _⟩, a => rfl
  | .scVector c s, ⟨1, _⟩, a => rfl
  | .scVector c s, ⟨2, _⟩, a => rfl
  | .scScalar c, ⟨0, _⟩, a => rfl
  | .scScalar c, ⟨1, _⟩, a => rfl
  | .scScalar c, ⟨2, _⟩, a => rfl
  | .tc, ⟨0, _⟩, a => rfl
  | .tc, ⟨1, _⟩, (t, s) => rfl
  | .tc, ⟨2, _⟩, (t, s) => rfl

set_option maxHeartbeats 4000000 in
/-- @main. -/
theorem main_eq : @Cert.Kernel.main F _ _ = @Cert.KernelIdeal.main F _ _ := by
  unfold Cert.Kernel.main Cert.KernelIdeal.main
  rfl

/-- A run under equal tables and an equal @main. -/
theorem run_congr {D₁ D₂ : Defs Cert.Kernel.nD Cert.Kernel.τ Cert.Kernel.sig (Elt F) Cert.Kernel.Λ₀}
    {M₁ M₂ : Dev Cert.Kernel.nD → Prog (TpuEff Cert.Kernel.nD Cert.Kernel.τ Cert.Kernel.sig (Elt F) (SparseCore.Sig (Pipeline.Sig Cert.Kernel.Λ₀ (Fin 2) fun p => (Cert.Kernel.pcfgs (F := F) p).Adm) 1) .tc) PUnit}
    (hD : D₁ = D₂) (hM : M₁ = M₂) {σ : MemSt Cert.Kernel.nD Cert.Kernel.τ Cert.Kernel.sig (Elt F)} {Q : PUnit × MemSt Cert.Kernel.nD Cert.Kernel.τ Cert.Kernel.sig (Elt F) → Prop}
    (h : θ_run (Cert.Kernel.sc.defs (Pipeline.defs Cert.Kernel.pcfgs D₂)) (Cert.Kernel.sc.threads M₂) σ Q) :
    θ_run (Cert.Kernel.sc.defs (Pipeline.defs Cert.Kernel.pcfgs D₁)) (Cert.Kernel.sc.threads M₁) σ Q := by
  subst hD hM; exact h

set_option maxHeartbeats 4000000 in
/-- The program's run, of `Kernel`. -/
theorem run_Kernel [∀ e, Nonempty (Elt F e)] (m : (ℓ : Loc Cert.Kernel.nD Cert.Kernel.τ Cert.Kernel.sig) → Buf (Elt F) ℓ) (ρ : Dev Cert.Kernel.nD → PrngReg) :
    θ_run (Cert.Kernel.defs (F := F)) (Cert.Kernel.threads (F := F)) ⟨m, fun _ => 0, ρ⟩ (QC (F := F) m) := by
  unfold Cert.Kernel.defs
  have h := run_main (F := F) m ρ
  unfold Cert.KernelIdeal.defs at h
  exact run_congr bodies_eq main_eq h

end Cert.Proof

end
-- ==== Proof.Frames.lean ====
/-
  The frames: every program here ends with its arguments as they were and every semaphore at zero.
-/
module

public import proofs.«01_k».proof.Defs
public import proofs.«01_k».proof.Proof.Same
public import proofs.«01_k».proof.Proof.Gen.ReferenceIdeal.Run

@[expose] public section

noncomputable section

namespace Cert.Proof

open Cert.KernelIdeal Cert.KernelIdeal.Gen
open Idealize.ShloMosaic Idealize.ShloMosaic.TcCoe Idealize.SL.Sem
open Idealize.ShloMosaic.StableHlo (after)

variable {F : FTy → Type} [FloatOps F]

variable (m : (ℓ : Loc nD τ sig) → Buf (Elt F) ℓ)

/-- What the operations before the call write, -/
def wA : List (Ref sig .tc) := [main_v0, main_v1, main_v2, main_v3, main_v4, main_v5, main_v6]
/-- and those between the call and the branch. -/
def wB : List (Ref sig .tc) := [main_v8, main_v9, main_c, main_v10, main_v11, main_c_0, main_v12]
/-- Everything @main writes. -/
def wAll : List (Ref sig .tc) := wA ++ [main_v7_0, main_v7_1] ++ wB ++ [main_v13, main_case0b0_v16, main_case0b1_v16, main_case0b1_v17, main_v14, main_v15]

/-- An operation leaves the buffers it does not write. -/
theorem result_ne {op : HloOp τ sig (Elt F)} {y r : Ref sig .tc} (V : Valuation τ sig (Elt F)) (hw : op.writes = {Proc.devRef (τ := τ) .tc y}) (h : r ≠ y) :
    op.result V (Proc.devRef .tc r) = V (Proc.devRef .tc r) :=
  op.result_of_not_mem V (by rw [hw, Finset.mem_singleton]; exact StableHlo.devRef_ne_of_ne h)

/-- The first operations leave the other buffers. -/
theorem VA_ne (d : Dev nD) (r : Ref sig .tc) (h : r ∉ wA) : VA m d (Proc.devRef .tc r) = m (d, Proc.devRef .tc r) :=
  StableHlo.after_of_writes_sub opsA (V0 m d) (StableHlo.forall_writes_sub_of_map (W := wA) rfl) h

/-- The call leaves the buffers that are not its results. -/
theorem VB_ne (d : Dev nD) (r : Ref sig .tc) (h0 : r ≠ main_v7_0) (h1 : r ≠ main_v7_1) : VB m d (Proc.devRef .tc r) = VA m d (Proc.devRef .tc r) := by
  unfold VB
  rw [Function.update_of_ne (StableHlo.devRef_ne_of_ne h1), Function.update_of_ne (StableHlo.devRef_ne_of_ne h0)]

/-- So do the operations up to the branch. -/
theorem VC_ne (d : Dev nD) (r : Ref sig .tc) (h : r ∉ wB) (h0 : r ≠ main_v13) : VC m d (Proc.devRef .tc r) = VB m d (Proc.devRef .tc r) := by
  unfold VC
  rw [result_ne _ (y := main_v13) rfl h0]
  exact StableHlo.after_of_writes_sub opsB (VB m d) (StableHlo.forall_writes_sub_of_map (W := wB) rfl) h

/-- A buffer @main writes nowhere ends as it was. -/
theorem VE_ne (d : Dev nD) (r : Ref sig .tc) (h : r ∉ wAll) : VE m d (Proc.devRef .tc r) = m (d, Proc.devRef .tc r) := by
  have hn : ∀ y ∈ wAll, r ≠ y := fun y hy e => h (e ▸ hy)
  have hC : VC m d (Proc.devRef .tc r) = m (d, Proc.devRef .tc r) := by
    rw [VC_ne m d r (fun hb => hn r (by revert hb; simp only [wAll, List.mem_append]; tauto) rfl) (hn _ (by decide)),
      VB_ne m d r (hn _ (by decide)) (hn _ (by decide)),
      VA_ne m d r (fun hb => hn r (by revert hb; simp only [wAll, List.mem_append]; tauto) rfl)]
  unfold VE
  rw [result_ne _ (y := main_v15) rfl (hn _ (by decide))]
  split
  · rw [result_ne _ (y := main_v14) rfl (hn _ (by decide))]
    unfold VS
    rw [Function.update_of_ne (StableHlo.devRef_ne_of_ne (hn _ (by decide))), hC]
  · rw [result_ne _ (y := main_v14) rfl (hn _ (by decide))]
    unfold VD
    rw [Function.update_of_ne (StableHlo.devRef_ne_of_ne (hn _ (by decide)))]
    unfold VM
    rw [result_ne _ (y := main_case0b1_v16) rfl (hn _ (by decide)), hC]

/-- The arguments end as they were. -/
theorem args_of_QC {r : PUnit × MemSt nD τ sig (Elt F)} (h : QC m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  ⟨(h.1 c main_arg0 rfl).trans (VE_ne m c main_arg0 (by decide)), (h.1 c main_arg1 rfl).trans (VE_ne m c main_arg1 (by decide)),
   (h.1 c main_arg2 rfl).trans (VE_ne m c main_arg2 (by decide)), (h.1 c main_arg3 rfl).trans (VE_ne m c main_arg3 (by decide)),
   (h.1 c main_arg4 rfl).trans (VE_ne m c main_arg4 (by decide)), (h.1 c main_arg5 rfl).trans (VE_ne m c main_arg5 (by decide))⟩

/-! ## The claims -/

/-- Every float value of the machine's formats exists. -/
instance elt_nonempty (e : EltTy) : Nonempty (Elt Bits e) := by cases e <;> exact ⟨(0 : BitVec _)⟩

/-- The frame of the program over the extended reals, -/
theorem frame_KernelIdeal : Cert.quiescent_KernelIdeal := fun m ρ _ =>
  (θ_run Cert.KernelIdeal.defs _ _).mono (fun _ h => ⟨args_of_QC m h, h.2⟩) (run_main (F := Ideal) m ρ)

/-- of the program over the machine words, -/
theorem frame_Kernel : Cert.quiescent_Kernel := fun m ρ _ =>
  (θ_run Cert.Kernel.defs _ _).mono (fun _ h => ⟨args_of_QC (F := Bits) m h, h.2⟩) (run_Kernel (F := Bits) m ρ)

/-- and of the reference. -/
theorem frame_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Norm.lean ====
/-
  What the two TensorCore kernels and the reference compute at one element, over the extended reals: a row of the embeddings
  passed through the linear map, added back and normalised. The kernels multiply by the reciprocal root of the variance where
  the reference divides by the root; the two agree because a variance shifted by a positive number is positive.
-/
module

public import proofs.«01_k».proof.Proof.Dense
public import proofs.«01_k».proof.Proof.Sparse
public import proofs.«01_k».proof.Proof.Gen.ReferenceIdeal.Run
public import Idealize.ShloMosaic.Lib.Pointwise
public import Idealize.ShloMosaic.PureOps.Ideal

@[expose] public section

noncomputable section

namespace Cert.Proof

open Idealize.ShloMosaic Cert.KernelIdeal Cert.KernelIdeal.Gen

/-! ## The normalised row -/

/-- A row after the linear map, with the row added back: `x + (x · w + b)`. -/
def lin (x : Fin 768 → EReal) (w : Fin 768 → Fin 768 → EReal) (b : Fin 768 → EReal) (j : Fin 768) : EReal :=
  x j + (∑ k, x k * w k j + b j)

/-- The mean of a row's 768 elements. -/
def mean (z : Fin 768 → EReal) : EReal := Ideal.div (∑ k, z k) (Ideal.ofBits .f32 0x44400000#32)

/-- The mean of the squares of a row's distances from its mean. -/
def var (z : Fin 768 → EReal) : EReal :=
  Ideal.div (∑ k, (z k - mean z) * (z k - mean z)) (Ideal.ofBits .f32 0x44400000#32)

/-- The row normalised: centred, times the reciprocal root of the shifted variance, scaled and shifted. -/
def normed (z g e : Fin 768 → EReal) (j : Fin 768) : EReal :=
  (z j - mean z) * Ideal.rsqrt (var z + Ideal.ofBits .f32 0x3727C5AC#32) * g j + e j

/-- Row `r` of a two-axis array. -/
def row {a : Nat} (x : (⟨2, ![a, 768]⟩ : Shape).Idx → EReal) (r : Fin a) (j : Fin 768) : EReal := x (ix2 r j)

/-! ## Dividing by the root -/

/-- Dividing by a positive number's root is multiplying by its reciprocal root. -/
theorem div_sqrt {v : EReal} (h : 0 < v) (z : EReal) : Ideal.div z (Ideal.sqrt v) = z * Ideal.rsqrt v := by
  induction v with
  | bot => exact absurd h (by simp)
  | top => simp [Ideal.div]
  | coe r =>
    have hr : 0 < r := by exact_mod_cast h
    rw [Ideal.sqrt_coe, Ideal.rsqrt_coe, if_neg hr.le.not_gt, if_neg hr.le.not_gt, if_neg hr.ne',
      Ideal.div_coe (Real.sqrt_pos.2 hr).ne', one_div]

/-- A square is not negative. -/
theorem sq_nonneg' (z : EReal) : 0 ≤ z * z := by
  induction z with
  | bot => simp
  | top => simp
  | coe r => exact_mod_cast mul_self_nonneg r

/-- The word of the divisor is the number 768. -/
theorem bits_768 : Ideal.ofBits .f32 0x44400000#32 = ((768 : ℝ) : EReal) := by
  simp [Ideal.ofBits, Ideal.ieee]
  rw [← EReal.coe_mul]
  norm_num

/-- The word added to the variance is a positive number. -/
theorem bits_eps : 0 < Ideal.ofBits .f32 0x3727C5AC#32 := by
  simp [Ideal.ofBits, Ideal.ieee]
  rw [← EReal.coe_mul]
  exact_mod_cast (by positivity : (0 : ℝ) < 10995116 * (2 ^ 40)⁻¹)

/-- A variance is not negative. -/
theorem var_nonneg (z : Fin 768 → EReal) : 0 ≤ var z := by
  unfold var
  rw [bits_768, Ideal.div_coe (by norm_num)]
  exact mul_nonneg (Finset.sum_nonneg fun k _ => sq_nonneg' _) (by exact_mod_cast (by norm_num : (0 : ℝ) ≤ 1 / 768))

/-- The shifted variance is positive. -/
theorem var_pos (z : Fin 768 → EReal) : 0 < var z + Ideal.ofBits .f32 0x3727C5AC#32 :=
  bits_eps.trans_le (le_add_of_nonneg_left (var_nonneg z))

/-! ## The dense block -/

/-- The dense body's normalised rows, at one element. -/
theorem pay3_apply (X : Vec Ideal S1024x768 .f32) (W : Vec Ideal S768x768 .bf16) (B G E : Vec Ideal S1x768 .f32)
    (r : Fin 1024) (j : Fin 768) :
    k2_pay3 X W B G E (ix2 r j) = normed (lin (row X r) (row W) (row B 0)) (row G 0) (row E 0) j := by
  pointwise [k2_pay3, k2_pay2]
  rfl

/-- A selection by an equality test. -/
theorem select_eq {w : Nat} (u v : BitVec w) (a b : EReal) :
    Scalar.select (IntOp.cmpi .eq u v) a b = if u = v then a else b := by
  by_cases h : u = v
  · simp [Scalar.select, IntOp.cmpi, h]
  · simp [Scalar.select, IntOp.cmpi, h, beq_eq_false_iff_ne.mpr h]

/-- An element of the dense block: the normalised row's where the mask selects, the row's own elsewhere. -/
theorem denseBlk_apply (X : Vec Ideal S1024x768 .f32) (M : Vec Ideal S1024x1 .i32) (W : Vec Ideal S768x768 .bf16)
    (B G E : Vec Ideal S1x768 .f32) (r : Fin 1024) (j : Fin 768) :
    denseBlk X M W B G E (ix2 r j) = if M (ix2 r 0) = 1#32 then
      normed (lin (row X r) (row W) (row B 0)) (row G 0) (row E 0) j else X (ix2 r j) := by
  rw [← pay3_apply]
  pointwise [denseBlk, k2_pay1, k2_pay2, k2_pay4]
  exact select_eq _ _ _ _

/-! ## The sparse block -/

/-- An indicator's word as a number. -/
theorem hot_eq (u v k n : BitVec 32) :
    (FloatOps.sitofp FTy.f32 (BitVec.setWidth 32 (IntOp.andi (IntOp.cmpi .eq u v) (IntOp.cmpi .slt k n))) : Ideal .f32)
      = if u = v ∧ k.slt n = true then (1 : EReal) else 0 := by
  show ((((BitVec.setWidth 32 (IntOp.andi (IntOp.cmpi .eq u v) (IntOp.cmpi .slt k n))).toInt : ℝ)) : EReal) = _
  by_cases h : u = v
  · by_cases h' : k.slt n = true <;> simp [IntOp.andi, IntOp.cmpi, h, h']
  · by_cases h' : k.slt n = true <;> simp [IntOp.andi, IntOp.cmpi, h, h', beq_eq_false_iff_ne.mpr h]

/-- A gathered row: the rows of the block weighted by the indicator of the listed position. -/
theorem gather_apply (n : BitVec 32) (P : Vec Ideal S1x1x128 .i32) (X : Vec Ideal S1024x768 .f32) (k : Fin 128) (j : Fin 768) :
    k1_pay3 n P X (ix2 k j) = ∑ x : Fin 1024,
      (if BitVec.ofNat 32 x.val = P (ix3 0 0 k) ∧ (BitVec.ofNat 32 k.val).slt n = true then (1 : EReal) else 0) * X (ix2 x j) := by
  pointwise [k1_pay3, k1_pay2]
  exact Finset.sum_congr rfl fun x _ => congrArg (· * X (ix2 x j)) (hot_eq _ _ _ _)

/-- The indicator that sends entry `k` of the list back to row `r`. -/
theorem scatter_apply (n : BitVec 32) (P : Vec Ideal S1x1x128 .i32) (r : Fin 1024) (k : Fin 128) :
    k1_pay4 (F := Ideal) n P (ix2 r k)
      = if BitVec.ofNat 32 r.val = P (ix3 0 0 k) ∧ (BitVec.ofNat 32 k.val).slt n = true then (1 : EReal) else 0 := by
  pointwise [k1_pay4, k1_pay2]
  exact hot_eq _ _ _ _

/-- A gathered row after the linear map, with the row added back. -/
theorem lin_apply (n : BitVec 32) (P : Vec Ideal S1x1x128 .i32) (X : Vec Ideal S1024x768 .f32)
    (W : Vec Ideal S768x768 .bf16) (B : Vec Ideal S1x768 .f32) (k : Fin 128) (j : Fin 768) :
    k1_pay5 n P X W B (ix2 k j) = lin (row (k1_pay3 n P X) k) (row W) (row B 0) j := by
  pointwise [k1_pay5]
  rfl

/-- The sparse body's last sum: each row plus the listed rows' differences, weighted by the indicator. -/
theorem pay1_apply (xg : Vec Ideal S128x768 .f32) (p : Vec Ideal S1024x128 .bf16) (z : Vec Ideal S128x768 .f32)
    (G E : Vec Ideal S1x768 .f32) (X : Vec Ideal S1024x768 .f32) (r : Fin 1024) (j : Fin 768) :
    k1_pay1 xg p z (k1_pay6 G) E X (ix2 r j) =
      X (ix2 r j) + ∑ k, p (ix2 r k) * (normed (row z k) (row G 0) (row E 0) j - xg (ix2 k j)) := by
  pointwise [k1_pay1, k1_pay6]
  rfl

/-- An element of the sparse block at a row the list does not name: the row's own. -/
theorem sparseBlk_of_not (n : BitVec 32) (P : Vec Ideal S1x1x128 .i32) (X : Vec Ideal S1024x768 .f32)
    (W : Vec Ideal S768x768 .bf16) (B G E : Vec Ideal S1x768 .f32) (r : Fin 1024) (j : Fin 768)
    (h : ∀ k : Fin 128, ¬ (BitVec.ofNat 32 r.val = P (ix3 0 0 k) ∧ (BitVec.ofNat 32 k.val).slt n = true)) :
    sparseBlk n X P W B G E (ix2 r j) = X (ix2 r j) := by
  unfold sparseBlk
  rw [pay1_apply, Finset.sum_eq_zero (fun k _ => ?_), add_zero]
  rw [scatter_apply, if_neg (h k), zero_mul]

/-- A finite number plus the distance of another from it is the other. -/
theorem add_sub_self {x : EReal} (ht : x ≠ ⊤) (hb : x ≠ ⊥) (y : EReal) : x + (y - x) = y := by
  lift x to ℝ using ⟨ht, hb⟩
  induction y with
  | bot => simp
  | top => simp
  | coe r => norm_cast; ring

/-- An element of the sparse block at a row that exactly one entry of the list names: the normalised row's. -/
theorem sparseBlk_of_one (n : BitVec 32) (P : Vec Ideal S1x1x128 .i32) (X : Vec Ideal S1024x768 .f32)
    (W : Vec Ideal S768x768 .bf16) (B G E : Vec Ideal S1x768 .f32) (r : Fin 1024) (j : Fin 768) (k₀ : Fin 128)
    (h : ∀ k : Fin 128, (BitVec.ofNat 32 r.val = P (ix3 0 0 k) ∧ (BitVec.ofNat 32 k.val).slt n = true) ↔ k = k₀)
    (ht : X (ix2 r j) ≠ ⊤) (hb : X (ix2 r j) ≠ ⊥) :
    sparseBlk n X P W B G E (ix2 r j) = normed (lin (row X r) (row W) (row B 0)) (row G 0) (row E 0) j := by
  have hP := (h k₀).2 rfl
  have hg : row (k1_pay3 n P X) k₀ = row X r := by
    funext i
    show k1_pay3 n P X (ix2 k₀ i) = X (ix2 r i)
    rw [gather_apply, Finset.sum_eq_single r]
    · rw [if_pos hP, one_mul]
    · intro x _ hx
      rw [if_neg, zero_mul]
      rintro ⟨e, -⟩
      rw [← hP.1] at e
      have e' := congrArg BitVec.toNat e
      simp only [BitVec.toNat_ofNat] at e'
      have := x.isLt; have := r.isLt
      exact hx (Fin.ext (by omega))
    · exact fun hr => absurd (Finset.mem_univ r) hr
  have hl : row (k1_pay5 n P X W B) k₀ = lin (row X r) (row W) (row B 0) := by
    funext i
    show k1_pay5 n P X W B (ix2 k₀ i) = _
    rw [lin_apply, hg]
  unfold sparseBlk
  rw [pay1_apply, Finset.sum_eq_single k₀]
  · rw [scatter_apply, if_pos hP, one_mul, hl, show k1_pay3 n P X (ix2 k₀ j) = X (ix2 r j) from congrFun hg j]
    exact add_sub_self ht hb _
  · intro k _ hk
    rw [scatter_apply, if_neg (fun hh => hk ((h k).1 hh)), zero_mul]
  · exact fun hr => absurd (Finset.mem_univ k₀) hr

end Cert.Proof

/-! ## The reference -/

namespace Cert.Proof

open Idealize.ShloMosaic Idealize.SL.Sem Cert.ReferenceIdeal

/-- An element of the reference's result: the normalised row's where the mask selects, the row's own elsewhere. -/
theorem ref_apply (m : (ℓ : Loc nD τ sig) → Buf (Elt Ideal) ℓ) (c : Dev nD) (a : Fin 4) (s : Fin 8192) (j : Fin 768)
    (x : S4x8192x768.Idx → EReal) (k : S4x8192.Idx → BitVec 32) (w : S768x768.Idx → EReal) (b g e : S768.Idx → EReal)
    (hx : m ((c.tc : Thread nD τ).loc main_arg0) = x) (hk : m ((c.tc : Thread nD τ).loc main_arg1) = k)
    (hw : m ((c.tc : Thread nD τ).loc main_arg2) = w) (hb : m ((c.tc : Thread nD τ).loc main_arg3) = b)
    (hg : m ((c.tc : Thread nD τ).loc main_arg4) = g) (he : m ((c.tc : Thread nD τ).loc main_arg5) = e) :
    Cert.ReferenceIdeal.Value.res_main_v32 (F := Ideal) m c (ix3 a s j)
      = if k (ix2 a s) = 1#32 then
          normed (lin (fun i => x (ix3 a s i)) (fun i i' => w (ix2 i' i)) (fun i => b (ix1 i))) (fun i => g (ix1 i)) (fun i => e (ix1 i)) j
        else x (ix3 a s j) := by
  pointwise [Cert.ReferenceIdeal.Value.res_main_v32]
  rw [hx, hk, hw, hb, hg, he]
  refine (select_eq _ _ _ _).trans (congrArg (fun t => if k (ix2 a s) = 1#32 then t else x (ix3 a s j)) ?_)
  unfold normed
  rw [← div_sqrt (var_pos _)]
  rfl

end Cert.Proof
-- ==== Proof.Rows.lean ====
/-
  The two pipelines' results, element by element, over the extended reals: where the mask selects a row, the row normalised,
  and elsewhere the row itself. The first pipeline needs every segment's list to be whole and the rows to be finite.
-/
module

public import proofs.«01_k».proof.Proof.Norm
public import proofs.«01_k».proof.Proof.Setup

@[expose] public section

noncomputable section

namespace Cert.Proof

open Idealize.ShloMosaic Cert.KernelIdeal Cert.KernelIdeal.Gen

/-- A row's element as it should come out: normalised where the row is selected, unchanged elsewhere. -/
def want (k : BitVec 32) (x : Fin 768 → EReal) (w : Fin 768 → Fin 768 → EReal) (b g e : Fin 768 → EReal) (j : Fin 768) : EReal :=
  if k = 1#32 then normed (lin x w b) g e j else x j

/-! ## The list names exactly the selected words -/

/-- Comparing two small numbers as signed words compares the numbers. -/
theorem slt_ofNat {a b : Nat} (ha : a < 1024) (hb : b ≤ 1024) : (BitVec.ofNat 32 a).slt (BitVec.ofNat 32 b) = true ↔ a < b := by
  rw [BitVec.slt_iff_toInt_lt, BitVec.toInt_ofNat', BitVec.toInt_ofNat']
  have e1 : (a : Int).bmod (2 ^ 32) = a := by rw [Int.bmod_eq_of_le (by omega) (by omega)]
  have e2 : (b : Int).bmod (2 ^ 32) = b := by rw [Int.bmod_eq_of_le (by omega) (by omega)]
  rw [e1, e2]; omega

/-- Entry `k` of the list, when it is below the count, names the word selected with `k` selected words before it. -/
theorem entry_iff (s : S1024.Idx → BitVec 32) (i : Fin 1024) (k : Fin 128) :
    (BitVec.ofNat 32 i.val = Compact.list s 1024 (Shape.ofLane (d := ![128]) k)
      ∧ (BitVec.ofNat 32 k.val).slt (BitVec.ofNat 32 (Compact.cnt s 1024)) = true)
    ↔ Compact.Sel s i.val ∧ Compact.cnt s i.val = k.val := by
  have hi := i.isLt
  have hk := k.isLt
  rw [slt_ofNat (by omega) (Compact.cnt_le s 1024)]
  have hl : k.val < Compact.cnt s 1024 → Compact.list s 1024 (Shape.ofLane (d := ![128]) k) = BitVec.ofNat 32 (Compact.nth s k.val) := fun h => if_pos h
  constructor
  · rintro ⟨e, h⟩
    obtain ⟨j, hj, hs, hc, hn⟩ := Compact.exists_of_lt_cnt s h
    rw [hl h, hn] at e
    have e' := congrArg BitVec.toNat e
    simp only [BitVec.toNat_ofNat] at e'
    have : i.val = j := by omega
    rw [this]; exact ⟨hs, hc⟩
  · rintro ⟨hs, hc⟩
    have h : k.val < Compact.cnt s 1024 := by rw [← hc]; exact Compact.cnt_lt s hs hi
    refine ⟨?_, h⟩
    rw [hl h, ← hc, Compact.nth_cnt s hs]

/-! ## The blocks of the whole arrays -/

section
variable (M : S32768.Idx → BitVec 32) (x : S32768x768.Idx → EReal) (w : S768x768.Idx → EReal) (b g e : S1x768.Idx → EReal)

/-- Word `i` of segment `t` is word `1024 t + i` of the mask. -/
theorem seg_word (t : Fin 32) (i : Fin 1024) (r : Fin 32768) (h : 1024 * t.val + i.val = r.val) :
    seg M t (Compact.word i) = M (ix1 r) := by
  unfold seg
  congr 1
  funext a
  rw [Subsingleton.elim a 0]
  exact Fin.ext h

/-- A word is selected in its segment exactly when the mask holds a one there. -/
theorem sel_iff (t : Fin 32) (i : Fin 1024) (r : Fin 32768) (h : 1024 * t.val + i.val = r.val) :
    Compact.Sel (seg M t) i.val ↔ M (ix1 r) = 1#32 := by
  rw [← seg_word M t i r h]
  exact ⟨fun ⟨_, e⟩ => e, fun e => ⟨i.isLt, e⟩⟩

/-- A row's block is its number over 1024. -/
theorem blkOf_val (r : Fin 32768) (j : Fin 768) : (blkOf (ix2 r j)).val = r.val / 1024 := rfl

/-- A row of a block is the row of the whole array. -/
theorem row_rowsAt (r : Fin 32768) (j : Fin 768) (i : Fin 1024) (h : i.val = r.val % 1024) :
    row (rowsAt (F := Ideal) x (blkOf (ix2 r j))) i = row x r := by
  funext k
  show x (ix2 _ _) = x (ix2 _ _)
  congr 2
  apply Fin.ext
  show 1024 * (r.val / 1024) + i.val = r.val
  omega

/-- The first pipeline's element, when no segment has more selected words than its list holds. -/
theorem sparseOut_apply (hc : ∀ t, Compact.cnt (seg M t) 1024 ≤ 128) (hx : ∀ y, x y ≠ ⊤ ∧ x y ≠ ⊥) (r : Fin 32768) (j : Fin 768) :
    sparseOut (F := Ideal) (cntV M) x (idxV M) w b g e (ix2 r j)
      = want (M (ix1 r)) (row x r) (row w) (row b 0) (row g 0) (row e 0) j := by
  obtain ⟨t, ht⟩ : ∃ t, t = blkOf (ix2 r j) := ⟨_, rfl⟩
  have htv : t.val = r.val / 1024 := ht ▸ blkOf_val r j
  have hi : r.val % 1024 < 1024 := Nat.mod_lt _ (by decide)
  obtain ⟨i, hiv⟩ : ∃ i : Fin 1024, i.val = r.val % 1024 := ⟨⟨_, hi⟩, rfl⟩
  have hr : row (rowsAt (F := Ideal) x t) i = row x r := ht ▸ row_rowsAt x r j i hiv
  have hs := sel_iff M t i r (by omega)
  have hE : ∀ k : Fin 128, (BitVec.ofNat 32 i.val = posAt (F := Ideal) (idxV M) t (ix3 0 0 k)
      ∧ (BitVec.ofNat 32 k.val).slt (cntV M (Shape.pair (d := ![32, 16]) t (0 : Fin 16))) = true) ↔ _ := fun k => entry_iff (seg M t) i k
  have h0 : sparseOut (F := Ideal) (cntV M) x (idxV M) w b g e (ix2 r j)
      = sparseBlk (F := Ideal) (cntV M (Shape.pair (d := ![32, 16]) t (0 : Fin 16))) (rowsAt (F := Ideal) x t) (posAt (F := Ideal) (idxV M) t) w b g e (ix2 i j) := by
    rw [ht, show i = ⟨r.val % 1024, hi⟩ from Fin.ext hiv]; rfl
  rw [h0]
  unfold want
  by_cases h : M (ix1 r) = 1#32
  · rw [if_pos h]
    have hsel := hs.2 h
    have hk : Compact.cnt (seg M t) i.val < 128 := (Compact.cnt_lt _ hsel i.isLt).trans_le (hc t)
    have hxr : rowsAt (F := Ideal) x t (ix2 i j) = x (ix2 r j) := congrFun hr j
    rw [sparseBlk_of_one _ _ _ _ _ _ _ _ _ ⟨_, hk⟩ (fun k => (hE k).trans ?_) (hxr ▸ (hx _).1) (hxr ▸ (hx _).2), hr]
    exact ⟨fun ⟨_, e⟩ => Fin.ext e.symm, fun e => ⟨hsel, by rw [e]⟩⟩
  · rw [if_neg h, sparseBlk_of_not _ _ _ _ _ _ _ _ _ (fun k hh => h (hs.1 ((hE k).1 hh).1))]
    exact congrFun hr j

/-- The second pipeline's element. -/
theorem denseOut_apply (k : S32768x1.Idx → BitVec 32) (r : Fin 32768) (j : Fin 768) :
    denseOut (F := Ideal) x k w b g e (ix2 r j)
      = want (k (ix2 r 0)) (row x r) (row w) (row b 0) (row g 0) (row e 0) j := by
  obtain ⟨t, ht⟩ : ∃ t, t = blkOf (ix2 r j) := ⟨_, rfl⟩
  have htv : t.val = r.val / 1024 := ht ▸ blkOf_val r j
  have hi : r.val % 1024 < 1024 := Nat.mod_lt _ (by decide)
  obtain ⟨i, hiv⟩ : ∃ i : Fin 1024, i.val = r.val % 1024 := ⟨⟨_, hi⟩, rfl⟩
  have hr : row (rowsAt (F := Ideal) x t) i = row x r := ht ▸ row_rowsAt x r j i hiv
  have h0 : denseOut (F := Ideal) x k w b g e (ix2 r j)
      = denseBlk (F := Ideal) (rowsAt (F := Ideal) x t) (maskAt (F := Ideal) k t) w b g e (ix2 i j) := by
    rw [ht, show i = ⟨r.val % 1024, hi⟩ from Fin.ext hiv]; rfl
  have hm : maskAt (F := Ideal) k t (ix2 i 0) = k (ix2 r 0) := by
    show k (ix2 _ _) = _
    congr 2
    apply Fin.ext
    show 1024 * t.val + i.val = r.val
    omega
  rw [h0, denseBlk_apply, hr, hm, show rowsAt (F := Ideal) x t (ix2 i j) = row x r j from congrFun hr j]
  rfl

end

end Cert.Proof
-- ==== Proof.Value.lean ====
/-
  The value claim: the program's result is the reference's, element by element, over the extended reals.
-/
module

public import proofs.«01_k».proof.Proof.Rows
public import proofs.«01_k».proof.Proof.Frames
public import proofs.«01_k».proof.Proof.Gen.Pre_finite
public import Idealize.ShloMosaic.Lib.ReduceAll
public import Idealize.ShloMosaic.Lib.Routing.OpsOrder

@[expose] public section

noncomputable section

namespace Cert.Proof

open Cert.KernelIdeal Cert.KernelIdeal.Gen
open Idealize.ShloMosaic Idealize.ShloMosaic.TcCoe Idealize.SL.Sem
open Idealize.ShloMosaic.StableHlo (after)

variable (m : (ℓ : Loc nD τ sig) → Buf (Elt Ideal) ℓ) (d : Dev nD)

/-! ## The buffers the branches read -/

/-- What an argument holds at the start. -/
abbrev arg0 : S4x8192x768.Idx → EReal := m (d, Proc.devRef .tc main_arg0)
abbrev arg1 : S4x8192.Idx → BitVec 32 := m (d, Proc.devRef .tc main_arg1)
abbrev arg2 : S768x768.Idx → EReal := m (d, Proc.devRef .tc main_arg2)
abbrev arg3 : S768.Idx → EReal := m (d, Proc.devRef .tc main_arg3)
abbrev arg4 : S768.Idx → EReal := m (d, Proc.devRef .tc main_arg4)
abbrev arg5 : S768.Idx → EReal := m (d, Proc.devRef .tc main_arg5)

/-- The rows, flat. -/
theorem VA_v0 : VA m d (Proc.devRef .tc main_v0) = shapeCast S32768x768 (arg0 m d) shapeCasts_S4x8192x768_S32768x768 := by
  unfold VA opsA
  after_results_simp
  rfl

/-- The mask, flat. -/
theorem VA_v1 : VA m d (Proc.devRef .tc main_v1) = shapeCast S32768 (arg1 m d) shapeCasts_S4x8192_S32768 := by
  unfold VA opsA
  after_results_simp
  rfl

/-- The weights, transposed; the change of format is the identity. -/
theorem VA_v3 : VA m d (Proc.devRef .tc main_v3) = transpose S768x768 [1, 0] (arg2 m d) transposes_S768x768_S768x768_1_0 := by
  unfold VA opsA
  after_results_simp
  rfl

/-- The bias as one row. -/
theorem VA_v4 : VA m d (Proc.devRef .tc main_v4) = shapeCast S1x768 (arg3 m d) shapeCasts_S768_S1x768 := by
  unfold VA opsA
  after_results_simp
  rfl

/-- The scale as one row. -/
theorem VA_v5 : VA m d (Proc.devRef .tc main_v5) = shapeCast S1x768 (arg4 m d) shapeCasts_S768_S1x768 := by
  unfold VA opsA
  after_results_simp
  rfl

/-- The shift as one row. -/
theorem VA_v6 : VA m d (Proc.devRef .tc main_v6) = shapeCast S1x768 (arg5 m d) shapeCasts_S768_S1x768 := by
  unfold VA opsA
  after_results_simp
  rfl

/-- The call's positions. -/
theorem VB_idx : VB m d (Proc.devRef .tc main_v7_0) = idxV (Mk m d) := by
  unfold VB
  rw [Function.update_of_ne (StableHlo.devRef_ne_of_ne (show main_v7_0 ≠ main_v7_1 by decide))]
  exact Function.update_self _ _ _

/-- The call's counts. -/
theorem VB_cnt : VB m d (Proc.devRef .tc main_v7_1) = cntV (Mk m d) := by
  unfold VB
  exact Function.update_self _ _ _

/-! ## The branch -/

/-- Whether some count is above 128. -/
theorem any_eq : after opsB (VB m d) (Proc.devRef .tc main_v12)
    = Host.reduce IntOp.ori (cmpi .sgt (shapeCast S32 (extractStridedSlice S32x1 ![0, 0] (cntV (Mk m d)) slices_S32x16_S32x1_0_0) shapeCasts_S32x1_S32)
        (broadcastInDim S32 ![] bcast_S_S32 (constantI S_ 32 128#32))) (constantI S_ 1 0#1) reducesTo_S32_S_d0 h_S_ := by
  unfold opsB
  after_results_simp
  rw [VB_cnt]
  rfl

/-- The index is zero only when every segment's list is whole. -/
theorem cnt_le_of_branch (h : HostLoop.branch (ovf m d) 1 = 0) (t : Fin 32) : Compact.cnt (seg (Mk m d) t) 1024 ≤ 128 := by
  by_contra hc
  have hv : ovf m d = 1#32 := by
    unfold ovf
    rw [any_eq]
    generalize hC : cntV (Mk m d) = C
    have hb : Host.reduce IntOp.ori (cmpi .sgt (shapeCast S32 (extractStridedSlice S32x1 ![0, 0] C slices_S32x16_S32x1_0_0) shapeCasts_S32x1_S32)
        (broadcastInDim S32 ![] bcast_S_S32 (constantI S_ 32 128#32))) (constantI S_ 1 0#1) reducesTo_S32_S_d0 h_S_ HostLoop.idx0 = 1#1 := by
      pointwise
      rw [Routing.fold_ori]
      refine ⟨t, Finset.mem_univ _, ?_⟩
      have e : C (ix2 t 0) = BitVec.ofNat 32 (Compact.cnt (seg (Mk m d) t) 1024) := by rw [← hC]; rfl
      have hlt : (128#32).slt (BitVec.ofNat 32 (Compact.cnt (seg (Mk m d) t) 1024)) = true :=
        (slt_ofNat (a := 128) (by decide) (Compact.cnt_le _ _)).2 (by omega)
      rw [e]
      show BitVec.ofBool ((128#32).slt _) = 1#1
      rw [hlt]; rfl
    exact congrArg (BitVec.setWidth 32) hb
  rw [hv] at h
  exact absurd h (by decide)

/-! ## The arrays the branches read, element by element -/

section
variable (r : Fin 32768) (a : Fin 4) (s : Fin 8192) (hr : r.val = a.val * 8192 + s.val)
include hr

/-- A flat row is the row of the argument. -/
theorem row_arg (X : S4x8192x768.Idx → EReal) :
    row (shapeCast S32768x768 X shapeCasts_S4x8192x768_S32768x768) r = fun i => X (ix3 a s i) := by
  funext j
  unfold row
  pointwise
  have ha := a.isLt
  have hs := s.isLt
  congr 2
  · exact Fin.ext (by show r.val / 8192 = a.val; omega)
  · exact Fin.ext (by show r.val % 8192 = s.val; omega)

/-- A flat mask word is the argument's. -/
theorem mask_apply (X : S4x8192.Idx → BitVec 32) :
    shapeCast S32768 X shapeCasts_S4x8192_S32768 (ix1 r) = X (ix2 a s) := by
  pointwise
  have ha := a.isLt
  have hs := s.isLt
  congr 2
  · exact Fin.ext (by show r.val / 8192 = a.val; omega)
  · exact Fin.ext (by show r.val % 8192 = s.val; omega)

/-- An element of the result's last reshape. -/
theorem res_apply (X : S32768x768.Idx → EReal) (j : Fin 768) :
    shapeCast S4x8192x768 X shapeCasts_S32768x768_S4x8192x768 (ix3 a s j) = X (ix2 r j) := by
  pointwise
  congr 2
  exact Fin.ext hr.symm

end

/-- A row of the transposed weights is a column. -/
theorem row_weight (X : S768x768.Idx → EReal) :
    row (transpose S768x768 [1, 0] X transposes_S768x768_S768x768_1_0) = fun i j => X (ix2 j i) := by
  funext i j
  unfold row
  pointwise

/-- The one row of a vector. -/
theorem row_vec (X : S768.Idx → EReal) : row (shapeCast S1x768 X shapeCasts_S768_S1x768) 0 = fun i => X (ix1 i) := by
  funext j
  unfold row
  pointwise

/-- The mask as one column. -/
theorem col_mask (X : S32768.Idx → BitVec 32) (r : Fin 32768) :
    shapeCast S32768x1 X shapeCasts_S32768_S32768x1 (ix2 r 0) = X (ix1 r) := by
  pointwise

/-! ## The result -/

/-- What the last operation leaves. -/
theorem opR_out (V : Valuation τ sig (Elt Ideal)) :
    (opR (F := Ideal)).result V (Proc.devRef .tc main_v15) = shapeCast S4x8192x768 (V (Proc.devRef .tc main_v14)) shapeCasts_S32768x768_S4x8192x768 := by
  show after [opR] V _ = _
  after_results_simp
  rfl

/-- What the first branch's copy leaves. -/
theorem opS_out (V : Valuation τ sig (Elt Ideal)) :
    (opS (F := Ideal)).result V (Proc.devRef .tc main_v14) = V (Proc.devRef .tc main_case0b0_v16) := by
  show after [opS] V (Proc.devRef .tc main_v14) = _
  after_results_simp
  rfl

/-- What the second branch's copy leaves. -/
theorem opD_out (V : Valuation τ sig (Elt Ideal)) :
    (opD (F := Ideal)).result V (Proc.devRef .tc main_v14) = V (Proc.devRef .tc main_case0b1_v17) := by
  show after [opD] V (Proc.devRef .tc main_v14) = _
  after_results_simp
  rfl

/-- The column of the mask that the second pipeline reads. -/
theorem VM_mask : VM m d (Proc.devRef .tc main_case0b1_v16) = shapeCast S32768x1 (VC m d (Proc.devRef .tc main_v1)) shapeCasts_S32768_S32768x1 := by
  unfold VM
  show after [opM] (VC m d) _ = _
  after_results_simp
  rfl

/-- A buffer only the first operations write is at the branch what they leave. -/
theorem VC_VA (r : Ref sig .tc) (h : r ∉ wB) (h0 : r ≠ main_v13) (h1 : r ≠ main_v7_0) (h2 : r ≠ main_v7_1) :
    VC m d (Proc.devRef .tc r) = VA m d (Proc.devRef .tc r) := by
  rw [VC_ne m d r h h0, VB_ne m d r h1 h2]

/-- The same after the column of the mask is written. -/
theorem VM_VA (r : Ref sig .tc) (h : r ∉ wB) (h0 : r ≠ main_v13) (h1 : r ≠ main_v7_0) (h2 : r ≠ main_v7_1) (h3 : r ≠ main_case0b1_v16) :
    VM m d (Proc.devRef .tc r) = VA m d (Proc.devRef .tc r) := by
  unfold VM
  rw [result_ne _ (y := main_case0b1_v16) rfl h3, VC_VA m d r h h0 h1 h2]

/-- The flat mask the call reads, from the argument. -/
theorem Mk_eq : Mk m d = shapeCast S32768 (arg1 m d) shapeCasts_S4x8192_S32768 := VA_v1 m d

/-- An element of the program's result: the normalised row's where the mask selects, the row's own elsewhere. -/
theorem VE_apply (hfin : ∀ y, arg0 m d y ≠ ⊤ ∧ arg0 m d y ≠ ⊥) (a : Fin 4) (s : Fin 8192) (j : Fin 768) :
    (VE m d (Proc.devRef .tc main_v15) : S4x8192x768.Idx → EReal) (ix3 a s j)
      = want (arg1 m d (ix2 a s)) (fun i => arg0 m d (ix3 a s i)) (fun i i' => arg2 m d (ix2 i' i)) (fun i => arg3 m d (ix1 i))
          (fun i => arg4 m d (ix1 i)) (fun i => arg5 m d (ix1 i)) j := by
  obtain ⟨r, hr⟩ : ∃ r : Fin 32768, r.val = a.val * 8192 + s.val := ⟨⟨a.val * 8192 + s.val, by omega⟩, rfl⟩
  unfold VE
  rw [opR_out]
  refine (res_apply r a s hr _ j).trans ?_
  split
  · next h =>
    rw [opS_out]
    unfold VS
    rw [Function.update_self, VC_ne m d main_v7_1 (by decide) (by decide), VC_ne m d main_v7_0 (by decide) (by decide), VB_idx, VB_cnt,
      VC_VA m d main_v0 (by decide) (by decide) (by decide) (by decide), VC_VA m d main_v3 (by decide) (by decide) (by decide) (by decide),
      VC_VA m d main_v4 (by decide) (by decide) (by decide) (by decide), VC_VA m d main_v5 (by decide) (by decide) (by decide) (by decide),
      VC_VA m d main_v6 (by decide) (by decide) (by decide) (by decide), VA_v0, VA_v3, VA_v4, VA_v5, VA_v6]
    have hx : ∀ y, shapeCast S32768x768 (arg0 m d) shapeCasts_S4x8192x768_S32768x768 y ≠ ⊤ ∧ shapeCast S32768x768 (arg0 m d) shapeCasts_S4x8192x768_S32768x768 y ≠ ⊥ :=
      fun y => hfin _
    rw [sparseOut_apply (Mk m d) _ _ _ _ _ (cnt_le_of_branch m d h) hx r j, row_arg r a s hr, row_weight, row_vec, row_vec, row_vec,
      Mk_eq, mask_apply r a s hr]
  · rw [opD_out]
    unfold VD
    rw [Function.update_self, VM_mask, VC_VA m d main_v1 (by decide) (by decide) (by decide) (by decide),
      VM_VA m d main_v0 (by decide) (by decide) (by decide) (by decide) (by decide), VM_VA m d main_v3 (by decide) (by decide) (by decide) (by decide) (by decide),
      VM_VA m d main_v4 (by decide) (by decide) (by decide) (by decide) (by decide), VM_VA m d main_v5 (by decide) (by decide) (by decide) (by decide) (by decide),
      VM_VA m d main_v6 (by decide) (by decide) (by decide) (by decide) (by decide), VA_v0, VA_v1, VA_v3, VA_v4, VA_v5, VA_v6]
    rw [denseOut_apply _ _ _ _ _ _ r j, row_arg r a s hr, row_weight, row_vec, row_vec, row_vec,
      col_mask, mask_apply r a s hr]

/-! ## The precondition -/

/-- A number whose absolute value is less than infinity is neither infinity. -/
theorem finite_of_abs {x : EReal} (h : BitVec.ofBool (decide (FloatOps.absf (F := Ideal) (φ := .f32) x < Ideal.ofBits FTy.f32 0x7F800000#32)) = 1#1) :
    x ≠ ⊤ ∧ x ≠ ⊥ := by
  have hlt : max x (-x) < Ideal.ofBits FTy.f32 0x7F800000#32 := by
    by_contra hn
    rw [show decide (FloatOps.absf (F := Ideal) (φ := .f32) x < Ideal.ofBits FTy.f32 0x7F800000#32) = false from decide_eq_false hn] at h
    exact absurd h (by decide)
  have h1 := hlt.trans_le le_top
  constructor
  · rintro rfl
    exact absurd h1 (by simp)
  · rintro rfl
    exact absurd h1 (by simp)

/-- The precondition says that every element of the embeddings is finite. -/
theorem fin_apply (x0 : S4x8192x768.Idx → EReal) (x1 : S4x8192.Idx → BitVec 32) (x2 : S768x768.Idx → EReal) (x3 x4 x5 : S768.Idx → EReal)
    (h : Cert.Pre_finite.fn (F := Ideal) x0 x1 x2 x3 x4 x5 = fun _ => 1#1) (y : S4x8192x768.Idx) : x0 y ≠ ⊤ ∧ x0 y ≠ ⊥ := by
  have h' := Host.reduce_andi_all _ _ _ _ (fun a => a.elim0) (congrFun h _) y
  pointwise at h'
  exact finite_of_abs h'

/-! ## The claims -/

/-- The frames under the precondition, which they do not need. -/
theorem frame_KernelIdeal_pre : Cert.quiescent_KernelIdeal_pre_finite := fun m ρ _ => frame_KernelIdeal m ρ trivial

/-- The same of the reference. -/
theorem frame_ReferenceIdeal_pre : Cert.quiescent_ReferenceIdeal_pre_finite := fun m ρ _ => frame_ReferenceIdeal m ρ trivial

/-- From memories that agree on the arguments the program and the reference end with one result. -/
theorem algebraic : Cert.algebraic_KernelIdeal_ReferenceIdeal_pre_finite := fun m g m' g' hpre hag =>
  ⟨fun c => VE m c (Proc.devRef .tc main_v15),
    (θ_run Cert.KernelIdeal.defs _ _).mono (fun _ h c => ⟨h.1 c main_v15 rfl, args_of_QC m h c⟩) (run_main (F := Ideal) m g),
    (θ_run Cert.ReferenceIdeal.defs _ _).mono (fun r h c => ⟨(h c).1.trans (by
      obtain ⟨h0, h1, h2, h3, h4, h5⟩ := hag c
      funext y
      obtain ⟨a, s, j, rfl⟩ : ∃ (a : Fin 4) (s : Fin 8192) (j : Fin 768), y = ix3 a s j := ⟨y 0, y 1, y 2, by
        funext i; match i with | 0 => rfl | 1 => rfl | 2 => rfl⟩
      exact (ref_apply m' c a s j _ _ _ _ _ _ h0 h1 h2 h3 h4 h5).trans
        (VE_apply m c (fin_apply _ _ _ _ _ _ (hpre c)) a s j).symm), (h c).2⟩) (Cert.ReferenceIdeal.Value.run (F := Ideal) m' g')⟩

end Cert.Proof
-- ==== Proof.lean ====
/-
  The proof of `Cert.Claim`: the frames of the program (over the machine words and over the extended reals) and of the
  reference, `preserves`, and the algebraic claim between the program and the reference.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_finite
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- The certificate's claims: the frames, that nothing was rewritten, and that the program computes the reference. -/
theorem claim : Cert.Claim :=
  ⟨Cert.Kernel.Gen.facts, Cert.KernelIdeal.Gen.facts, Cert.ReferenceIdeal.Gen.facts, Cert.Pre_finite.Gen.facts,
    frame_Kernel, frame_KernelIdeal, frame_KernelIdeal_pre, frame_ReferenceIdeal, frame_ReferenceIdeal_pre, trivial, algebraic⟩

end Cert.Proof

end
